-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_is_normal [hPre_scale_is_normal : Cert.Pre_scale_is_normal.Facts] (m : (ℓ : Loc Cert.KernelIdeal.nD Cert.KernelIdeal.τ Cert.KernelIdeal.sig) → Buf (Elt Ideal) ℓ) : Prop :=
  ∀ c : Dev Cert.KernelIdeal.nD,
    (Cert.Pre_scale_is_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_is_normal [hPre_scale_is_normal : Cert.Pre_scale_is_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_is_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scale_is_normal [hKernelIdeal : Cert.KernelIdeal.Facts] [hPre_scale_is_normal : Cert.Pre_scale_is_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_is_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scale_is_normal [hReferenceIdeal : Cert.ReferenceIdeal.Facts] [hPre_scale_is_normal : Cert.Pre_scale_is_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_is_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scale_is_normal [hKernelIdeal : Cert.KernelIdeal.Facts] [hReferenceIdeal : Cert.ReferenceIdeal.Facts] [hPre_scale_is_normal : Cert.Pre_scale_is_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_is_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scale_is_normal : Cert.Pre_scale_is_normal.Facts),
    quiescent_Kernel (hKernel := hKernel)
    ∧ quiescent_KernelIdeal (hKernelIdeal := hKernelIdeal)
    ∧ quiescent_KernelIdeal_pre_scale_is_normal (hKernelIdeal := hKernelIdeal) (hPre_scale_is_normal := hPre_scale_is_normal)
    ∧ quiescent_ReferenceIdeal (hReferenceIdeal := hReferenceIdeal)
    ∧ quiescent_ReferenceIdeal_pre_scale_is_normal (hReferenceIdeal := hReferenceIdeal) (hPre_scale_is_normal := hPre_scale_is_normal)
    ∧ preserves_Kernel_KernelIdeal
    ∧ algebraic_KernelIdeal_ReferenceIdeal_pre_scale_is_normal (hKernelIdeal := hKernelIdeal) (hReferenceIdeal := hReferenceIdeal) (hPre_scale_is_normal := hPre_scale_is_normal)
-- ==== Pre_scale_is_normal.lean ====
abbrev S6x8x32x1920 : Shape := ⟨4, ![6, 8, 32, 1920]⟩
abbrev S1920 : Shape := ⟨1, ![1920]⟩
abbrev S6x8x32x640 : Shape := ⟨4, ![6, 8, 32, 640]⟩
abbrev S1536x640 : Shape := ⟨2, ![1536, 640]⟩
abbrev S_ : Shape := ⟨0, ![]⟩
abbrev S640 : Shape := ⟨1, ![640]⟩

class Facts : Prop where
  shapeCasts_S6x8x32x640_S1536x640 : S6x8x32x640.ShapeCasts S1536x640
  bitsLt_bf16_f32 : FTy.bits .bf16 < FTy.bits .f32
  reducesTo_S1536x640_S640_d0 : S1536x640.ReducesTo [0] S640
  h_S_ : 0 < S_.numel
  bcast_S_S640 : S_.BroadcastsInDim S640 (![] : Fin 0 → Fin S640.rank)

variable [Facts]

def fn {F : FTy → Type} [FloatOps F] (main_arg0 : FVec F S6x8x32x1920 .fp8e4m3) (main_arg1 : FVec F S1920 .f32) (main_arg2 : FVec F S6x8x32x640 .bf16) : IVec S640 1 :=
  let main_v0 : FVec F S1536x640 .bf16 := shapeCast S1536x640 main_arg2 shapeCasts_S6x8x32x640_S1536x640
  let main_v1 : FVec F S1536x640 .f32 := (extf .f32 · bitsLt_bf16_f32) main_v0
  let main_v2 : FVec F S1536x640 .f32 := Host.absf main_v1
  let main_cst : FVec F S_ .f32 := constant S_ .f32 0xFF800000#32
  let main_v3 : FVec F S640 .f32 := (fun x v => Host.reduce FloatOps.maximumf x v reducesTo_S1536x640_S640_d0 h_S_) main_v2 main_cst
  let main_cst_0 : FVec F S_ .f32 := constant S_ .f32 0x37924925#32
  let main_v4 : FVec F S640 .f32 := broadcastInDim S640 ![] bcast_S_S640 main_cst_0
  let main_v5 : FVec F S640 .f32 := mulf main_v3 main_v4
  let main_cst_1 : FVec F S_ .f32 := constant S_ .f32 0x00000000#32
  let main_v6 : FVec F S640 .f32 := broadcastInDim S640 ![] bcast_S_S640 main_cst_1
  let main_v7 : IVec S640 1 := cmpf .oeq main_v3 main_v6
  let main_cst_2 : FVec F S_ .f32 := constant S_ .f32 0x00800000#32
  let main_v8 : FVec F S640 .f32 := broadcastInDim S640 ![] bcast_S_S640 main_cst_2
  let main_v9 : IVec S640 1 := cmpf .oge main_v5 main_v8
  let main_cst_3 : FVec F S_ .f32 := constant S_ .f32 0x7E800000#32
  let main_v10 : FVec F S640 .f32 := broadcastInDim S640 ![] bcast_S_S640 main_cst_3
  let main_v11 : IVec S640 1 := cmpf .olt main_v5 main_v10
  let main_v12 : IVec S640 1 := andi main_v9 main_v11
  let main_v13 : IVec S640 1 := ori main_v7 main_v12
  main_v13
-- ==== Kernel.lean ====
abbrev S6x8x32x1920 : Shape := ⟨4, ![6, 8, 32, 1920]⟩
abbrev S1920 : Shape := ⟨1, ![1920]⟩
abbrev S6x8x32x640 : Shape := ⟨4, ![6, 8, 32, 640]⟩
abbrev S1536x1920 : Shape := ⟨2, ![1536, 1920]⟩
abbrev S1536x640 : Shape := ⟨2, ![1536, 640]⟩
abbrev S1920x1 : Shape := ⟨2, ![1920, 1]⟩
abbrev S9x1920x640 : Shape := ⟨3, ![9, 1920, 640]⟩
abbrev S1x640 : Shape := ⟨2, ![1, 640]⟩
abbrev S1536x384 : Shape := ⟨2, ![1536, 384]⟩
abbrev S384x1 : Shape := ⟨2, ![384, 1]⟩
abbrev S9x384x640 : Shape := ⟨3, ![9, 384, 640]⟩
abbrev S3x1760x640 : Shape := ⟨3, ![3, 1760, 640]⟩
abbrev S640 : Shape := ⟨1, ![640]⟩
abbrev S255x640 : Shape := ⟨2, ![255, 640]⟩
abbrev S32x640 : Shape := ⟨2, ![32, 640]⟩
abbrev S1x32x640 : Shape := ⟨3, ![1, 32, 640]⟩
abbrev S31x640 : Shape := ⟨2, ![31, 640]⟩
abbrev S384x640 : Shape := ⟨2, ![384, 640]⟩
abbrev S384x1536 : Shape := ⟨2, ![384, 1536]⟩
abbrev S384x256 : Shape := ⟨2, ![384, 256]⟩
abbrev S1x256x640 : Shape := ⟨3, ![1, 256, 640]⟩
abbrev S256x640 : Shape := ⟨2, ![256, 640]⟩
abbrev S1x384x640 : Shape := ⟨3, ![1, 384, 640]⟩

abbrev nBuf : Space → Nat
  | .hbm => 9
  | .vmem => 10
  | .smem => 0
  | _ => 0

abbrev bufTy : (tb : Table) → Fin (tcTables nBuf tb) → BufTy
  | .hbm, ⟨0, _⟩ => ⟨S6x8x32x1920, .fp8e4m3⟩
  | .hbm, ⟨1, _⟩ => ⟨S1920, .f32⟩
  | .hbm, ⟨2, _⟩ => ⟨S6x8x32x640, .bf16⟩
  | .hbm, ⟨3, _⟩ => ⟨S1536x1920, .fp8e4m3⟩
  | .hbm, ⟨4, _⟩ => ⟨S1536x640, .bf16⟩
  | .hbm, ⟨5, _⟩ => ⟨S1920x1, .f32⟩
  | .hbm, ⟨6, _⟩ => ⟨S9x1920x640, .f32⟩
  | .hbm, ⟨7, _⟩ => ⟨S1536x640, .fp8e5m2⟩
  | .hbm, ⟨8, _⟩ => ⟨S1x640, .f32⟩
  | .local _ .vmem, ⟨0, _⟩ => ⟨S1536x384, .fp8e4m3⟩
  | .local _ .vmem, ⟨1, _⟩ => ⟨S1536x384, .fp8e4m3⟩
  | .local _ .vmem, ⟨2, _⟩ => ⟨S384x1, .f32⟩
  | .local _ .vmem, ⟨3, _⟩ => ⟨S384x1, .f32⟩
  | .local _ .vmem, ⟨4, _⟩ => ⟨S1536x640, .bf16⟩
  | .local _ .vmem, ⟨5, _⟩ => ⟨S9x384x640, .f32⟩
  | .local _ .vmem, ⟨6, _⟩ => ⟨S9x384x640, .f32⟩
  | .local _ .vmem, ⟨7, _⟩ => ⟨S1536x640, .fp8e5m2⟩
  | .local _ .vmem, ⟨8, _⟩ => ⟨S1x640, .f32⟩
  | .local _ .vmem, ⟨9, _⟩ => ⟨S3x1760x640, .fp8e5m2⟩
  | _, _ => ⟨S6x8x32x1920, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1536x384 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S9x384x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x640 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S6x8x32x1920 : Shape := ⟨4, ![6, 8, 32, 1920]⟩
abbrev S1920 : Shape := ⟨1, ![1920]⟩
abbrev S6x8x32x640 : Shape := ⟨4, ![6, 8, 32, 640]⟩
abbrev S1920x1 : Shape := ⟨2, ![1920, 1]⟩
abbrev S1536x640 : Shape := ⟨2, ![1536, 640]⟩
abbrev S9x1920x640 : Shape := ⟨3, ![9, 1920, 640]⟩
abbrev S1x640 : Shape := ⟨2, ![1, 640]⟩
abbrev S640 : Shape := ⟨1, ![640]⟩
abbrev S6x1x32x1920 : Shape := ⟨4, ![6, 1, 32, 1920]⟩
abbrev S6x9x32x1920 : Shape := ⟨4, ![6, 9, 32, 1920]⟩
abbrev S6x10x32x1920 : Shape := ⟨4, ![6, 10, 32, 1920]⟩
abbrev S6x10x1x1920 : Shape := ⟨4, ![6, 10, 1, 1920]⟩
abbrev S6x10x33x1920 : Shape := ⟨4, ![6, 10, 33, 1920]⟩
abbrev S6x10x34x1920 : Shape := ⟨4, ![6, 10, 34, 1920]⟩
abbrev S1920x640 : Shape := ⟨2, ![1920, 640]⟩
abbrev S1536x1920 : Shape := ⟨2, ![1536, 1920]⟩
abbrev S1x1920x640 : Shape := ⟨3, ![1, 1920, 640]⟩

abbrev nBuf : Space → Nat
  | .hbm => 8
  | .vmem => 6
  | .smem => 0
  | _ => 0

abbrev bufTy : (tb : Table) → Fin (tcTables nBuf tb) → BufTy
  | .hbm, ⟨0, _⟩ => ⟨S6x8x32x1920, .fp8e4m3⟩
  | .hbm, ⟨1, _⟩ => ⟨S1920, .f32⟩
  | .hbm, ⟨2, _⟩ => ⟨S6x8x32x640, .bf16⟩
  | .hbm, ⟨3, _⟩ => ⟨S1920x1, .f32⟩
  | .hbm, ⟨4, _⟩ => ⟨S1536x640, .bf16⟩
  | .hbm, ⟨5, _⟩ => ⟨S9x1920x640, .f32⟩
  | .hbm, ⟨6, _⟩ => ⟨S1536x640, .fp8e5m2⟩
  | .hbm, ⟨7, _⟩ => ⟨S1x640, .f32⟩
  | .local _ .vmem, ⟨0, _⟩ => ⟨S6x8x32x1920, .fp8e4m3⟩
  | .local _ .vmem, ⟨1, _⟩ => ⟨S1920x1, .f32⟩
  | .local _ .vmem, ⟨2, _⟩ => ⟨S1536x640, .bf16⟩
  | .local _ .vmem, ⟨3, _⟩ => ⟨S9x1920x640, .f32⟩
  | .local _ .vmem, ⟨4, _⟩ => ⟨S1536x640, .fp8e5m2⟩
  | .local _ .vmem, ⟨5, _⟩ => ⟨S1x640, .f32⟩
  | _, _ => ⟨S6x8x32x1920, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x8x32x1920 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x1920x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x640 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Buffers.lean ====
module

public import proofs.«01_k».proof.Proof.Gen.KernelIdeal.Skeleton
public import proofs.«01_k».proof.Proof.Gen.KernelIdeal.Frame

/-
  The condition under which the kernel body fills its scratch buffer, and the names of the buffers the
  pipeline hands the body at a grid point.
-/
@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition under which the body fills the scratch array, computed from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [cond0_0, e0]
    word_cmp
   : ∀ t : Fin grid0.N, cond0_0 (grid0.coords t) ↔ t.val % 5 = 0)

/-! ## The buffers of a point -/

/-- A buffer of result 1, by which its contents are stated: any other would do. -/
abbrev VO0_3 : View sig .tc .vmem S9x384x640 .f32 := (Memref.whole cc0_stg3_0 : Memref sig .tc .vmem S9x384x640 .f32).view
/-- A buffer of result 2, by which its contents are stated: any other would do. -/
abbrev VO0_4 : View sig .tc .vmem S1536x640 .fp8e5m2 := (Memref.whole cc0_stg4_0 : Memref sig .tc .vmem S1536x640 .fp8e5m2).view
/-- A buffer of result 3, by which its contents are stated: any other would do. -/
abbrev VO0_5 : View sig .tc .vmem S1x640 .f32 := (Memref.whole cc0_stg5_0 : Memref sig .tc .vmem S1x640 .f32).view
/-- The buffer of each argument and result that the body is given at point `t`, and that it is a whole buffer. -/
abbrev ms0_0 (t : Fin cfg0.N) : Memref sig .tc .vmem S1536x384 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x640 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S9x384x640 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x640 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x640 .f32 := win0_5.stage (cfg0.slots t 5)
abbrev hs0_5 (t : Fin cfg0.N) : (ms0_5 t).IsWhole := hstage0_5 ((cfg0.slots t 5).cast nbuf0_5)
/-- The scratch array: a whole buffer of the kernel's own. -/
abbrev scM0_0 : Memref sig .tc .vmem S3x1760x640 .fp8e5m2 := Memref.whole cc0_scratch0
/-- The scratch array as a view, by which what it holds is stated. -/
abbrev VS0_0 : View sig .tc .vmem S3x1760x640 .fp8e5m2 := scM0_0.view

/-- What the body is given besides its buffers at the start: the scratch array at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Run

end
-- ==== Proof.RunFirst.lean ====
module

public import proofs.«01_k».proof.Proof.Buffers

/-
  The body at the first grid point, run from its first operation to its last: the pieces it leaves in each
  buffer, together with the proof that it leaves them.
-/
@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run is long
set_option maxHeartbeats 2692000 in
/-- What the body's stores leave in each output's buffer and in the scratch array at the first grid point, as lists of
    written pieces (last first), with the proof that the body, started on whole buffers that hold the inputs' blocks in
    the inputs' buffers and anything in the others, ends with the inputs' buffers as they were and the others with
    these pieces written.  The lists are the ones that running the body finds. -/
noncomputable def kernelRun0_A (c : Dev nD) (i : grid0.Coords) (arg1 : Memref sig .tc .vmem S1536x384 .fp8e4m3) (harg1 : arg1.IsWhole) (arg2 : Memref sig .tc .vmem S384x1 .f32) (harg2 : arg2.IsWhole) (arg3 : Memref sig .tc .vmem S1536x640 .bf16) (harg3 : arg3.IsWhole) (arg4 : Memref sig .tc .vmem S9x384x640 .f32) (harg4 : arg4.IsWhole) (arg5 : Memref sig .tc .vmem S1536x640 .fp8e5m2) (harg5 : arg5.IsWhole) (arg6 : Memref sig .tc .vmem S1x640 .f32) (harg6 : arg6.IsWhole) (arg7 : Memref sig .tc .vmem S3x1760x640 .fp8e5m2) (harg7 : arg7.IsWhole) (hc0 : cond0_0 i)
    (x0 : Vec F S1536x384 .fp8e4m3) (x1 : Vec F S384x1 .f32) (x2 : Vec F S1536x640 .bf16) :
    Σ' (L3 : List (View.Piece (Elt F) S9x384x640 .f32)), Σ' (L4 : List (View.Piece (Elt F) S1536x640 .fp8e5m2)), Σ' (L5 : List (View.Piece (Elt F) S1x640 .f32)), { LS0 : List (View.Piece (Elt F) S3x1760x640 .fp8e5m2) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0_wgrad i arg1 harg1 arg2 harg2 arg3 harg3 arg4 harg4 arg5 harg5 arg6 harg6 arg7 harg7) K } := by
  refine ⟨?_, ?_, ?_, ?_, fun E K => ?run⟩
  case run =>
    simp only [cc0_wgrad_eq_skeleton]; unfold cc0_wgrad_skel
    simp only [k0_part27_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    iexists _; iexact HS0

end Cert.KernelIdeal.Run

end
-- ==== Proof.RunLater.lean ====
module

public import proofs.«01_k».proof.Proof.RunFirst

/-
  The body at every later grid point: only the slabs of the weight gradient are stored.
-/
@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run is long
set_option maxHeartbeats 1000000 in
/-- What the body's stores leave in the weight gradient's buffer at a later grid point, as a list of written pieces
    (last first), with the proof that the body, started on whole buffers that hold the inputs' blocks, the codes, the
    scale and the scratch array as the point before left them, ends with all of these as they were and the weight
    gradient's buffer with these pieces written.  The list is the one that running the body finds. -/
noncomputable def kernelRun0_B (c : Dev nD) (i : grid0.Coords) (arg1 : Memref sig .tc .vmem S1536x384 .fp8e4m3) (harg1 : arg1.IsWhole) (arg2 : Memref sig .tc .vmem S384x1 .f32) (harg2 : arg2.IsWhole) (arg3 : Memref sig .tc .vmem S1536x640 .bf16) (harg3 : arg3.IsWhole) (arg4 : Memref sig .tc .vmem S9x384x640 .f32) (harg4 : arg4.IsWhole) (arg5 : Memref sig .tc .vmem S1536x640 .fp8e5m2) (harg5 : arg5.IsWhole) (arg6 : Memref sig .tc .vmem S1x640 .f32) (harg6 : arg6.IsWhole) (arg7 : Memref sig .tc .vmem S3x1760x640 .fp8e5m2) (harg7 : arg7.IsWhole) (hc0 : ¬cond0_0 i)
    (x0 : Vec F S1536x384 .fp8e4m3) (x1 : Vec F S384x1 .f32) (x2 : Vec F S1536x640 .bf16) (xo4 : Vec F S1536x640 .fp8e5m2) (xo5 : Vec F S1x640 .f32) (xs0 : Vec F S3x1760x640 .fp8e5m2) :
    { L3 : List (View.Piece (Elt F) S9x384x640 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xo4 ∗ owns (c : Thread nD τ) arg6 fullShare xo5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xo4 ∗ owns (c : Thread nD τ) arg6 fullShare xo5 ∗ owns (c : Thread nD τ) arg7 fullShare xs0) -∗ K ⟨⟩))
          ⊢ wp frame (wpE (defs₀ (F := F)) Variants.none c none) E (cc0_wgrad i arg1 harg1 arg2 harg2 arg3 harg3 arg4 harg4 arg5 harg5 arg6 harg6 arg7 harg7) K } := by
  refine ⟨?_, fun E K => ?run⟩
  case run =>
    simp only [cc0_wgrad_eq_skeleton]; unfold cc0_wgrad_skel
    simp only [k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    iexists _; isplitr; · ipureintro; exact harg7.read_unread _
    iexact HS0

end Cert.KernelIdeal.Run

end
-- ==== Proof.Pieces.lean ====
module

public import proofs.«01_k».proof.Proof.RunLater

/-
  The stores the body makes, listed by their number.

  At the first grid point the scratch array receives 21 blocks of zero rows and 144 image rows of the quantised
  gradient; at every grid point the block of the weight gradient receives nine slabs, one per filter tap.
-/
@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Lists by number -/

/-- The first `n` members of a family, the last one first (the order in which a list of stores is written). -/
noncomputable def upTo {α : Type} {N : ℕ} (f : (k : ℕ) → k < N → α) : (n : ℕ) → n ≤ N → List α
  | 0, _ => []
  | n + 1, h => f n h :: upTo f n (Nat.le_of_succ_le h)

theorem mem_upTo {α : Type} {N : ℕ} (f : (k : ℕ) → k < N → α) (p : α) :
    ∀ (n : ℕ) (h : n ≤ N), p ∈ upTo f n h ↔ ∃ (k : ℕ) (hk : k < n), f k (Nat.lt_of_lt_of_le hk h) = p
  | 0, h => by simp [upTo]
  | n + 1, h => by
      rw [upTo, List.mem_cons, mem_upTo f p n]
      constructor
      · rintro (rfl | ⟨k, hk, rfl⟩)
        · exact ⟨n, Nat.lt_succ_self n, rfl⟩
        · exact ⟨k, Nat.lt_succ_of_lt hk, rfl⟩
      · rintro ⟨k, hk, rfl⟩
        rcases Nat.lt_succ_iff_lt_or_eq.1 hk with h' | rfl
        · exact Or.inr ⟨k, h', rfl⟩
        · exact Or.inl rfl

/-! ## The quantised gradient -/

/-- The scale of every channel. -/
noncomputable def scaleV (dy : Vec F S1536x640 .bf16) : FVec F S1x640 .f32 := k0_pay4 dy

/-- The codes of every pixel and channel. -/
noncomputable def codesV (dy : Vec F S1536x640 .bf16) : FVec F S1536x640 .fp8e5m2 :=
  k0_pay6 (k0_pay5 dy) (Scalar.ofBits .f32 0xC7600000#32)

/-! ## The scratch array -/

/-- Image row `t` of the codes. -/
noncomputable def imgRow (codes : FVec F S1536x640 .fp8e5m2) (t : ℕ) (ht : t < 48) : FVec F S32x640 .fp8e5m2 :=
  extractStridedSlice S32x640 ![t * 32, 0] codes
    ⟨rfl, fun a => by fin_cases a <;> simp [S32x640, S1536x640] <;> omega⟩

/-- One image row for filter column `kw`: its pixels moved one place down, kept, or moved one place up, a zero
    standing in the place left free. -/
noncomputable def shifted (kw : ℕ) (c : FVec F S32x640 .fp8e5m2) : FVec F S32x640 .fp8e5m2 :=
  match kw with
  | 0 => concatenate S32x640 0
      [⟨S31x640, extractStridedSlice S31x640 ![1, 0] c slices_S32x640_o1_0_S31x640⟩,
       ⟨S1x640, extractStridedSlice S1x640 ![0, 0] (k0_pay7 (F := F)) slices_S32x640_o0_0_S1x640⟩]
      concatenates_S31x640_S1x640_S32x640_d0
  | 1 => c
  | _ => concatenate S32x640 0
      [⟨S1x640, extractStridedSlice S1x640 ![0, 0] (k0_pay7 (F := F)) slices_S32x640_o0_0_S1x640⟩,
       ⟨S31x640, extractStridedSlice S31x640 ![0, 0] c slices_S32x640_o0_0_S31x640⟩]
      concatenates_S1x640_S31x640_S32x640_d0

/-- The rows that block `blk` of panel `kw` of the scratch array occupies. -/
abbrev rowRect (kw blk : ℕ) (hk : kw < 3) (hb : blk < 55) : Rect S3x1760x640 :=
  Rect.unit (s := S3x1760x640) ![kw, blk * 32, 0] S1x32x640.size
    (fun a => by fin_cases a <;> simp [S1x32x640, S3x1760x640] <;> omega)

/-- The store of a block of zero rows. -/
noncomputable def zeroPiece (n : ℕ) (hn : n < 21) : View.Piece (Elt F) S3x1760x640 .fp8e5m2 :=
  ⟨rowRect (n % 3) (n / 3 * 9) (by omega) (by omega),
    shapeCast S1x32x640 (k0_pay7 (F := F)) shapeCasts_S32x640_S1x32x640⟩

/-- The store of an image row. -/
noncomputable def rowPiece (codes : FVec F S1536x640 .fp8e5m2) (n : ℕ) (hn : n < 144) : View.Piece (Elt F) S3x1760x640 .fp8e5m2 :=
  ⟨rowRect (n % 3) (n / 3 + n / 24 + 1) (by omega) (by omega),
    shapeCast S1x32x640 (shifted (n % 3) (imgRow codes (n / 3) (by omega))) shapeCasts_S32x640_S1x32x640⟩

/-- Every store into the scratch array, the last one first. -/
noncomputable def scratchPieces (codes : FVec F S1536x640 .fp8e5m2) : List (View.Piece (Elt F) S3x1760x640 .fp8e5m2) :=
  upTo (rowPiece codes) 144 le_rfl ++ upTo zeroPiece 21 le_rfl

/-! ## One block of the weight gradient -/

/-- The rows of the scratch array that meet image `b` at filter tap `n` (row `n / 3`, column `n % 3`). -/
abbrev tapRect (n b : ℕ) (hn : n < 9) (hb : b < 6) : Rect S3x1760x640 :=
  Rect.unit (s := S3x1760x640) ![n % 3, (b * 9 + 2 - n / 3) * 32, 0] S1x256x640.size
    (fun a => by fin_cases a <;> simp [S1x256x640, S3x1760x640] <;> omega)

/-- Image `b`'s product: its 256 columns of the transposed input block against 256 rows of the scratch array. -/
noncomputable def tapDot (xT : FVec F S384x1536 .fp8e4m3) (b : ℕ) (hb : b < 6) (rows : Vec F S1x256x640 .fp8e5m2) :
    FVec F S384x640 .f32 :=
  matmul dot_S384x256_S256x640_S384x640_1_0_0_1_n_n none
    (extractStridedSlice S384x256 ![0, b * 256] xT ⟨rfl, fun a => by fin_cases a <;> simp [S384x256, S384x1536] <;> omega⟩)
    (shapeCast S256x640 rows shapeCasts_S1x256x640_S256x640) (constant S384x640 .f32 0x00000000#32)

/-- The products of the first `n` images summed, from zero. -/
noncomputable def tapSum (xT : FVec F S384x1536 .fp8e4m3) (ld : (b : ℕ) → b < 6 → Vec F S1x256x640 .fp8e5m2) :
    (n : ℕ) → n ≤ 6 → FVec F S384x640 .f32
  | 0, _ => broadcast S384x640 (Scalar.ofBits .f32 0x00000000#32)
  | n + 1, h => addf (tapSum xT ld n (Nat.le_of_succ_le h)) (tapDot xT n h (ld n h))

/-- One slab: the six images' products, times the two scales. -/
noncomputable def slab (xT : FVec F S384x1536 .fp8e4m3) (comb : FVec F S384x640 .f32)
    (ld : (b : ℕ) → b < 6 → Vec F S1x256x640 .fp8e5m2) : FVec F S1x384x640 .f32 :=
  shapeCast S1x384x640 (mulf (tapSum xT ld 6 le_rfl) comb) shapeCasts_S384x640_S1x384x640

/-- The store of slab `n`. -/
noncomputable def slabPiece (xT : FVec F S384x1536 .fp8e4m3) (comb : FVec F S384x640 .f32)
    (ld : (n : ℕ) → n < 9 → (b : ℕ) → b < 6 → Vec F S1x256x640 .fp8e5m2) (n : ℕ) (hn : n < 9) :
    View.Piece (Elt F) S9x384x640 .f32 :=
  ⟨Rect.unit (s := S9x384x640) ![n, 0, 0] S1x384x640.size
      (fun a => by fin_cases a <;> simp [S1x384x640, S9x384x640] <;> omega),
    slab xT comb (ld n hn)⟩

/-- Every store into the block of the weight gradient, the last one first, over the loads it makes. -/
noncomputable def slabPiecesOf (xT : FVec F S384x1536 .fp8e4m3) (comb : FVec F S384x640 .f32)
    (ld : (n : ℕ) → n < 9 → (b : ℕ) → b < 6 → Vec F S1x256x640 .fp8e5m2) :
    List (View.Piece (Elt F) S9x384x640 .f32) :=
  upTo (slabPiece xT comb ld) 9 le_rfl

/-- The same with the loads read from the scratch array's contents `R`. -/
noncomputable def slabPieces (x : Vec F S1536x384 .fp8e4m3) (xs : Vec F S384x1 .f32) (sc : Vec F S1x640 .f32)
    (R : Vec F S3x1760x640 .fp8e5m2) : List (View.Piece (Elt F) S9x384x640 .f32) :=
  slabPiecesOf (k0_pay248 x) (k0_pay247 xs sc) (fun n hn b hb => View.ld R (tapRect n b hn hb))

end Cert.KernelIdeal.Run

end
-- ==== Proof.Listed.lean ====
module

public import proofs.«01_k».proof.Proof.Pieces
public import Idealize.ShloMosaic.Lib.Pipeline.Value
public import Idealize.ShloMosaic.Lib.Pipeline.ValueKit.Tiles
public import Idealize.ShloMosaic.Lib.WholeRead

/-
  What the body was found to store is the list written by number.
-/
@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole buffer reads its contents. -/
theorem whole_load {s : Shape} {e : EltTy} {m : Memref sig .tc .vmem s e} (h : m.IsWhole) (X : Vec F s e)
    {off : Fin s.rank → ℕ} (h0 : off = fun _ => 0) (inb : ∀ a, off a + s.size a ≤ s.size a) :
    m.view.readAt (Elt F) (Rect.unit off s.size inb).toLoadRect (h.unread X) = X := by
  refine (funext fun x => congrFun (h.read_unread X) _).trans ?_
  exact View.ld_unit_zero h0 inb X

/-- A load of part of a whole buffer reads that part of its contents. -/
theorem part_load {s : Shape} {e : EltTy} {m : Memref sig .tc .vmem s e} (h : m.IsWhole) (X : Vec F s e) (r : Rect s) :
    m.view.readAt (Elt F) r.toLoadRect (h.unread X) = View.ld X r :=
  funext fun x => congrFun (h.read_unread X) _

section
variable (c : Dev nD) (i : grid0.Coords) (arg1 : Memref sig .tc .vmem S1536x384 .fp8e4m3) (harg1 : arg1.IsWhole) (arg2 : Memref sig .tc .vmem S384x1 .f32) (harg2 : arg2.IsWhole) (arg3 : Memref sig .tc .vmem S1536x640 .bf16) (harg3 : arg3.IsWhole) (arg4 : Memref sig .tc .vmem S9x384x640 .f32) (harg4 : arg4.IsWhole) (arg5 : Memref sig .tc .vmem S1536x640 .fp8e5m2) (harg5 : arg5.IsWhole) (arg6 : Memref sig .tc .vmem S1x640 .f32) (harg6 : arg6.IsWhole) (arg7 : Memref sig .tc .vmem S3x1760x640 .fp8e5m2) (harg7 : arg7.IsWhole)

section later
variable (hc0 : ¬cond0_0 i) (x0 : Vec F S1536x384 .fp8e4m3) (x1 : Vec F S384x1 .f32) (x2 : Vec F S1536x640 .bf16) (xo4 : Vec F S1536x640 .fp8e5m2) (xo5 : Vec F S1x640 .f32) (xs0 : Vec F S3x1760x640 .fp8e5m2)

set_option maxHeartbeats 4000000 in
theorem later_slabs : (kernelRun0_B c i arg1 harg1 arg2 harg2 arg3 harg3 arg4 harg4 arg5 harg5 arg6 harg6 arg7 harg7 hc0 x0 x1 x2 xo4 xo5 xs0).1 = slabPieces x0 x1 xo5 xs0 := by
  have h : (kernelRun0_B c i arg1 harg1 arg2 harg2 arg3 harg3 arg4 harg4 arg5 harg5 arg6 harg6 arg7 harg7 hc0 x0 x1 x2 xo4 xo5 xs0).1
      = slabPiecesOf
          (k0_pay248 (arg1.view.readAt (Elt F) (Rect.unit ![0, 0] S1536x384.size inb_S1536x384_S1536x384_0_0).toLoadRect (harg1.unread x0)))
          (k0_pay247 (arg2.view.readAt (Elt F) (Rect.unit ![0, 0] S384x1.size inb_S384x1_S384x1_0_0).toLoadRect (harg2.unread x1))
            (arg6.view.readAt (Elt F) (Rect.unit ![0, 0] S1x640.size inb_S1x640_S1x640_0_0).toLoadRect (harg6.unread xo5)))
          (fun n hn b hb => arg7.view.readAt (Elt F) (tapRect n b hn hb).toLoadRect (harg7.unread xs0)) := rfl
  rw [h, whole_load harg1 x0 (by decide), whole_load harg2 x1 (by decide), whole_load harg6 xo5 (by decide)]
  simp only [part_load]
  rfl
end later

section first
variable (hc0 : cond0_0 i) (x0 : Vec F S1536x384 .fp8e4m3) (x1 : Vec F S384x1 .f32) (x2 : Vec F S1536x640 .bf16)

set_option maxHeartbeats 4000000 in
theorem first_scratch : (kernelRun0_A c i arg1 harg1 arg2 harg2 arg3 harg3 arg4 harg4 arg5 harg5 arg6 harg6 arg7 harg7 hc0 x0 x1 x2).2.2.2.1 = scratchPieces (codesV x2) := by
  have h : (kernelRun0_A c i arg1 harg1 arg2 harg2 arg3 harg3 arg4 harg4 arg5 harg5 arg6 harg6 arg7 harg7 hc0 x0 x1 x2).2.2.2.1
      = scratchPieces (codesV (arg3.view.readAt (Elt F) (Rect.unit ![0, 0] S1536x640.size inb_S1536x640_S1536x640_0_0).toLoadRect (harg3.unread x2))) := rfl
  rw [h, whole_load harg3 x2 (by decide)]

set_option maxHeartbeats 4000000 in
theorem first_codes : (kernelRun0_A c i arg1 harg1 arg2 harg2 arg3 harg3 arg4 harg4 arg5 harg5 arg6 harg6 arg7 harg7 hc0 x0 x1 x2).2.1
    = [⟨Rect.unit (s := S1536x640) ![0, 0] S1536x640.size inb_S1536x640_S1536x640_0_0, codesV x2⟩] := by
  have h : (kernelRun0_A c i arg1 harg1 arg2 harg2 arg3 harg3 arg4 harg4 arg5 harg5 arg6 harg6 arg7 harg7 hc0 x0 x1 x2).2.1
      = [⟨Rect.unit (s := S1536x640) ![0, 0] S1536x640.size inb_S1536x640_S1536x640_0_0, codesV (arg3.view.readAt (Elt F) (Rect.unit ![0, 0] S1536x640.size inb_S1536x640_S1536x640_0_0).toLoadRect (harg3.unread x2))⟩] := rfl
  rw [h, whole_load harg3 x2 (by decide)]

set_option maxHeartbeats 4000000 in
theorem first_scale : (kernelRun0_A c i arg1 harg1 arg2 harg2 arg3 harg3 arg4 harg4 arg5 harg5 arg6 harg6 arg7 harg7 hc0 x0 x1 x2).2.2.1
    = [⟨Rect.unit (s := S1x640) ![0, 0] S1x640.size inb_S1x640_S1x640_0_0, scaleV x2⟩] := by
  have h : (kernelRun0_A c i arg1 harg1 arg2 harg2 arg3 harg3 arg4 harg4 arg5 harg5 arg6 harg6 arg7 harg7 hc0 x0 x1 x2).2.2.1
      = [⟨Rect.unit (s := S1x640) ![0, 0] S1x640.size inb_S1x640_S1x640_0_0, scaleV (arg3.view.readAt (Elt F) (Rect.unit ![0, 0] S1536x640.size inb_S1536x640_S1536x640_0_0).toLoadRect (harg3.unread x2))⟩] := rfl
  rw [h, whole_load harg3 x2 (by decide)]

set_option maxHeartbeats 4000000 in
theorem first_slabs : (kernelRun0_A c i arg1 harg1 arg2 harg2 arg3 harg3 arg4 harg4 arg5 harg5 arg6 harg6 arg7 harg7 hc0 x0 x1 x2).1
    = slabPieces x0 x1 (scaleV x2) (View.canon (scratchPieces (codesV x2))) := by
  have h : (kernelRun0_A c i arg1 harg1 arg2 harg2 arg3 harg3 arg4 harg4 arg5 harg5 arg6 harg6 arg7 harg7 hc0 x0 x1 x2).1
      = slabPiecesOf
          (k0_pay248 (arg1.view.readAt (Elt F) (Rect.unit ![0, 0] S1536x384.size inb_S1536x384_S1536x384_0_0).toLoadRect (harg1.unread x0)))
          (k0_pay247 (arg2.view.readAt (Elt F) (Rect.unit ![0, 0] S384x1.size inb_S384x1_S384x1_0_0).toLoadRect (harg2.unread x1))
            (arg6.view.readCov (kernelRun0_A c i arg1 harg1 arg2 harg2 arg3 harg3 arg4 harg4 arg5 harg5 arg6 harg6 arg7 harg7 hc0 x0 x1 x2).2.2.1 (Rect.unit ![0, 0] S1x640.size inb_S1x640_S1x640_0_0).toLoadRect))
          (fun n hn b hb => arg7.view.readCov (kernelRun0_A c i arg1 harg1 arg2 harg2 arg3 harg3 arg4 harg4 arg5 harg5 arg6 harg6 arg7 harg7 hc0 x0 x1 x2).2.2.2.1 (tapRect n b hn hb).toLoadRect) := rfl
  rw [h, first_scratch, first_scale, whole_load harg1 x0 (by decide), whole_load harg2 x1 (by decide)]
  simp only [View.readCov_eq_canon']
  have e : (fun j => View.canon (Val := Elt F) [(⟨Rect.unit (s := S1x640) ![0, 0] S1x640.size inb_S1x640_S1x640_0_0, scaleV x2⟩ : View.Piece (Elt F) S1x640 .f32)]
      ((Rect.unit (s := S1x640) ![0, 0] S1x640.size inb_S1x640_S1x640_0_0).toLoadRect.idx j)) = scaleV x2 :=
    funext fun j => View.canon_cons_emb _ _ _ j
  rw [e]
  rfl
end first
end

end Cert.KernelIdeal.Run

end
-- ==== Proof.Cover.lean ====
module

public import proofs.«01_k».proof.Proof.Listed

/-
  The stores of the body leave no place of the buffers they fill unwritten.
-/
@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every place of the block of the weight gradient lies in some slab. -/
theorem slab_cover (x : Vec F S1536x384 .fp8e4m3) (xs : Vec F S384x1 .f32) (sc : Vec F S1x640 .f32)
    (R : Vec F S3x1760x640 .fp8e5m2) (y : S9x384x640.Idx) : ∃ p ∈ slabPieces x xs sc R, y ∈ p.1.set := by
  have h0 : (y 0).val < 9 := (y 0).isLt
  have h1 : (y 1).val < 384 := (y 1).isLt
  have h2 : (y 2).val < 640 := (y 2).isLt
  refine ⟨_, (mem_upTo _ _ _ _).2 ⟨(y 0).val, h0, rfl⟩, ?_⟩
  unfold slabPiece
  rw [Rect.mem_set_unit]
  intro a
  fin_cases a <;> simp [S1x384x640] <;> omega

/-- Every place of the scratch array lies in some image row or some block of zero rows. -/
theorem scratch_cover (codes : FVec F S1536x640 .fp8e5m2) (y : S3x1760x640.Idx) :
    ∃ p ∈ scratchPieces codes, y ∈ p.1.set := by
  have h0 : (y 0).val < 3 := (y 0).isLt
  have h1 : (y 1).val < 1760 := (y 1).isLt
  have h2 : (y 2).val < 640 := (y 2).isLt
  by_cases hz : (y 1).val / 32 % 9 = 0
  · refine ⟨zeroPiece ((y 1).val / 32 / 9 * 3 + (y 0).val) (by omega),
      List.mem_append_right _ ((mem_upTo _ _ _ _).2 ⟨(y 1).val / 32 / 9 * 3 + (y 0).val, by omega, rfl⟩), ?_⟩
    unfold zeroPiece
    rw [Rect.mem_set_unit]
    intro a
    fin_cases a <;> simp [S1x32x640] <;> omega
  · refine ⟨rowPiece codes (((y 1).val / 32 - (y 1).val / 32 / 9 - 1) * 3 + (y 0).val) (by omega),
      List.mem_append_left _ ((mem_upTo _ _ _ _).2
        ⟨((y 1).val / 32 - (y 1).val / 32 / 9 - 1) * 3 + (y 0).val, by omega, rfl⟩), ?_⟩
    unfold rowPiece
    rw [Rect.mem_set_unit]
    intro a
    fin_cases a <;> simp [S1x32x640] <;> omega

end Cert.KernelIdeal.Run

end
-- ==== Proof.Triples.lean ====
module

public import proofs.«01_k».proof.Proof.Cover
public import Idealize.ShloMosaic.Lib.Claim

/-
  The body at the first grid point and at a later one, with what it leaves in each buffer named.
-/
@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the scratch array holds once the first point has run. -/
noncomputable def scratchV (codes : FVec F S1536x640 .fp8e5m2) : Vec F S3x1760x640 .fp8e5m2 :=
  View.canon (scratchPieces codes)

/-- The block of the weight gradient stored over a scratch array that holds `R`. -/
noncomputable def slabBlock (x : Vec F S1536x384 .fp8e4m3) (xs : Vec F S384x1 .f32) (sc : Vec F S1x640 .f32)
    (R : Vec F S3x1760x640 .fp8e5m2) : Vec F S9x384x640 .f32 :=
  View.canon (slabPieces x xs sc R)

/-- A buffer with a list of stores written is owned at what they leave. -/
theorem owns_of_writes {s : Shape} {e : EltTy} (c : Dev nD) (arg : Memref sig .tc .vmem s e)
    (L : List (View.Piece (Elt F) s e)) (X : Vec F s e) (hX : ∀ f, arg.view.read (Elt F) (arg.view.writes (Elt F) f L) = X) :
    iprop(∃ f, arg.view.loc (c : Thread nD τ) ↦[arg.view.set]{fullShare} arg.view.writes (Elt F) f L)
      ⊢ (owns (c : Thread nD τ) arg fullShare X : sProp 𝕄) := by
  unfold owns
  iintro ⟨%f, H⟩
  iexists _
  isplitr
  swap
  · iexact H
  ipureintro
  exact hX f

/-- One store of a whole buffer leaves what it stores. -/
theorem read_one_whole {s : Shape} {e : EltTy} (arg : Memref sig .tc .vmem s e) {off : Fin s.rank → ℕ}
    (h0 : off = fun _ => 0) (inb : ∀ a, off a + s.size a ≤ s.size a) (w : Vec F s e) (f : arg.view.ty.Contents (Elt F)) :
    arg.view.read (Elt F) (arg.view.writes (Elt F) f [⟨Rect.unit off s.size inb, w⟩]) = w :=
  (View.read_writes_eq_canon _ _ _ fun y => ⟨_, List.mem_cons_self, View.mem_set_unit_zero h0 inb y⟩).trans
    (View.canon_unit_zero h0 inb w)

section
variable (c : Dev nD) (i : grid0.Coords) (arg1 : Memref sig .tc .vmem S1536x384 .fp8e4m3) (harg1 : arg1.IsWhole) (arg2 : Memref sig .tc .vmem S384x1 .f32) (harg2 : arg2.IsWhole) (arg3 : Memref sig .tc .vmem S1536x640 .bf16) (harg3 : arg3.IsWhole) (arg4 : Memref sig .tc .vmem S9x384x640 .f32) (harg4 : arg4.IsWhole) (arg5 : Memref sig .tc .vmem S1536x640 .fp8e5m2) (harg5 : arg5.IsWhole) (arg6 : Memref sig .tc .vmem S1x640 .f32) (harg6 : arg6.IsWhole) (arg7 : Memref sig .tc .vmem S3x1760x640 .fp8e5m2) (harg7 : arg7.IsWhole)

section first
variable (hc0 : cond0_0 i) (x0 : Vec F S1536x384 .fp8e4m3) (x1 : Vec F S384x1 .f32) (x2 : Vec F S1536x640 .bf16)

/-- The first point's run over any lists equal to those it was found to store. -/
theorem first_run (L3 : List (View.Piece (Elt F) S9x384x640 .f32)) (L4 : List (View.Piece (Elt F) S1536x640 .fp8e5m2))
    (L5 : List (View.Piece (Elt F) S1x640 .f32)) (LS0 : List (View.Piece (Elt F) S3x1760x640 .fp8e5m2))
    (h3 : (kernelRun0_A c i arg1 harg1 arg2 harg2 arg3 harg3 arg4 harg4 arg5 harg5 arg6 harg6 arg7 harg7 hc0 x0 x1 x2).1 = L3) (h4 : (kernelRun0_A c i arg1 harg1 arg2 harg2 arg3 harg3 arg4 harg4 arg5 harg5 arg6 harg6 arg7 harg7 hc0 x0 x1 x2).2.1 = L4) (h5 : (kernelRun0_A c i arg1 harg1 arg2 harg2 arg3 harg3 arg4 harg4 arg5 harg5 arg6 harg6 arg7 harg7 hc0 x0 x1 x2).2.2.1 = L5)
    (hs : (kernelRun0_A c i arg1 harg1 arg2 harg2 arg3 harg3 arg4 harg4 arg5 harg5 arg6 harg6 arg7 harg7 hc0 x0 x1 x2).2.2.2.1 = LS0) (E : Set ℕ) (K : PUnit → sProp 𝕄) :
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0_wgrad i arg1 harg1 arg2 harg2 arg3 harg3 arg4 harg4 arg5 harg5 arg6 harg6 arg7 harg7) K := by
  subst h3 h4 h5 hs
  exact (kernelRun0_A c i arg1 harg1 arg2 harg2 arg3 harg3 arg4 harg4 arg5 harg5 arg6 harg6 arg7 harg7 hc0 x0 x1 x2).2.2.2.2 E K

include hc0 in
/-- The first point leaves its block, the codes, the scale and the scratch array. -/
theorem first_triple (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare (slabBlock x0 x1 (scaleV x2) (scratchV (codesV x2))) ∗ owns (c : Thread nD τ) arg5 fullShare (codesV x2) ∗ owns (c : Thread nD τ) arg6 fullShare (scaleV x2) ∗ owns (c : Thread nD τ) arg7 fullShare (scratchV (codesV x2))) -∗ K ⟨⟩))
      ⊢ wp frame (wpE (defs₀ (F := F)) Variants.none c none) E (cc0_wgrad i arg1 harg1 arg2 harg2 arg3 harg3 arg4 harg4 arg5 harg5 arg6 harg6 arg7 harg7) K := by
  refine Idealize.SL.BI.BIBase.Entails.trans ?_ (first_run c i arg1 harg1 arg2 harg2 arg3 harg3 arg4 harg4 arg5 harg5 arg6 harg6 arg7 harg7 hc0 x0 x1 x2 _ _ _ _
    (first_slabs c i arg1 harg1 arg2 harg2 arg3 harg3 arg4 harg4 arg5 harg5 arg6 harg6 arg7 harg7 hc0 x0 x1 x2) (first_codes c i arg1 harg1 arg2 harg2 arg3 harg3 arg4 harg4 arg5 harg5 arg6 harg6 arg7 harg7 hc0 x0 x1 x2)
    (first_scale c i arg1 harg1 arg2 harg2 arg3 harg3 arg4 harg4 arg5 harg5 arg6 harg6 arg7 harg7 hc0 x0 x1 x2) (first_scratch c i arg1 harg1 arg2 harg2 arg3 harg3 arg4 harg4 arg5 harg5 arg6 harg6 arg7 harg7 hc0 x0 x1 x2) E K)
  have e4 : ∀ f, arg5.view.read (Elt F) (arg5.view.writes (Elt F) f [⟨Rect.unit (s := S1536x640) ![0, 0] S1536x640.size inb_S1536x640_S1536x640_0_0, codesV x2⟩]) = codesV x2 := fun f =>
    read_one_whole arg5 (by decide) _ _ f
  have e5 : ∀ f, arg6.view.read (Elt F) (arg6.view.writes (Elt F) f [⟨Rect.unit (s := S1x640) ![0, 0] S1x640.size inb_S1x640_S1x640_0_0, scaleV x2⟩]) = scaleV x2 := fun f =>
    read_one_whole arg6 (by decide) _ _ f
  have e3 : ∀ f, arg4.view.read (Elt F) (arg4.view.writes (Elt F) f (slabPieces x0 x1 (scaleV x2) (View.canon (scratchPieces (codesV x2))))) = slabBlock x0 x1 (scaleV x2) (scratchV (codesV x2)) :=
    fun f => View.read_writes_eq_canon _ _ _ (slab_cover _ _ _ _)
  have es : ∀ f, arg7.view.read (Elt F) (arg7.view.writes (Elt F) f (scratchPieces (codesV x2))) = scratchV (codesV x2) :=
    fun f => View.read_writes_eq_canon _ _ _ (scratch_cover _)
  iintro ⟨H0, H1, H2, H3, H4, H5, HS, Hk⟩
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  iapply Hk
  isplitl [H0]; · iexact H0
  isplitl [H1]; · iexact H1
  isplitl [H2]; · iexact H2
  isplitl [H3]; · iapply (owns_of_writes c arg4 _ _ e3); iexact H3
  isplitl [H4]; · iapply (owns_of_writes c arg5 _ _ e4); iexact H4
  isplitl [H5]; · iapply (owns_of_writes c arg6 _ _ e5); iexact H5
  iapply (owns_of_writes c arg7 _ _ es); iexact HS
end first

section later
variable (hc0 : ¬cond0_0 i) (x0 : Vec F S1536x384 .fp8e4m3) (x1 : Vec F S384x1 .f32) (x2 : Vec F S1536x640 .bf16) (xo4 : Vec F S1536x640 .fp8e5m2) (xo5 : Vec F S1x640 .f32) (xs0 : Vec F S3x1760x640 .fp8e5m2)

/-- A later point's run over any list equal to the one it was found to store. -/
theorem later_run (L3 : List (View.Piece (Elt F) S9x384x640 .f32)) (h3 : (kernelRun0_B c i arg1 harg1 arg2 harg2 arg3 harg3 arg4 harg4 arg5 harg5 arg6 harg6 arg7 harg7 hc0 x0 x1 x2 xo4 xo5 xs0).1 = L3)
    (E : Set ℕ) (K : PUnit → sProp 𝕄) :
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xo4 ∗ owns (c : Thread nD τ) arg6 fullShare xo5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xo4 ∗ owns (c : Thread nD τ) arg6 fullShare xo5 ∗ owns (c : Thread nD τ) arg7 fullShare xs0) -∗ K ⟨⟩))
          ⊢ wp frame (wpE (defs₀ (F := F)) Variants.none c none) E (cc0_wgrad i arg1 harg1 arg2 harg2 arg3 harg3 arg4 harg4 arg5 harg5 arg6 harg6 arg7 harg7) K := by
  subst h3
  exact (kernelRun0_B c i arg1 harg1 arg2 harg2 arg3 harg3 arg4 harg4 arg5 harg5 arg6 harg6 arg7 harg7 hc0 x0 x1 x2 xo4 xo5 xs0).2 E K

include hc0 in
/-- A later point leaves its block, and the codes, the scale and the scratch array as it found them. -/
theorem later_triple (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xo4 ∗ owns (c : Thread nD τ) arg6 fullShare xo5 ∗ owns (c : Thread nD τ) arg7 fullShare xs0
        ∗ (iprop(owns (c : Thread nD τ) arg1 fullShare x0 ∗ owns (c : Thread nD τ) arg2 fullShare x1 ∗ owns (c : Thread nD τ) arg3 fullShare x2 ∗ owns (c : Thread nD τ) arg4 fullShare (slabBlock x0 x1 xo5 xs0) ∗ owns (c : Thread nD τ) arg5 fullShare xo4 ∗ owns (c : Thread nD τ) arg6 fullShare xo5 ∗ owns (c : Thread nD τ) arg7 fullShare xs0) -∗ K ⟨⟩))
      ⊢ wp frame (wpE (defs₀ (F := F)) Variants.none c none) E (cc0_wgrad i arg1 harg1 arg2 harg2 arg3 harg3 arg4 harg4 arg5 harg5 arg6 harg6 arg7 harg7) K := by
  refine Idealize.SL.BI.BIBase.Entails.trans ?_ (later_run c i arg1 harg1 arg2 harg2 arg3 harg3 arg4 harg4 arg5 harg5 arg6 harg6 arg7 harg7 hc0 x0 x1 x2 xo4 xo5 xs0 _
    (later_slabs c i arg1 harg1 arg2 harg2 arg3 harg3 arg4 harg4 arg5 harg5 arg6 harg6 arg7 harg7 hc0 x0 x1 x2 xo4 xo5 xs0) E K)
  have e3 : ∀ f, arg4.view.read (Elt F) (arg4.view.writes (Elt F) f (slabPieces x0 x1 xo5 xs0)) = slabBlock x0 x1 xo5 xs0 :=
    fun f => View.read_writes_eq_canon _ _ _ (slab_cover _ _ _ _)
  iintro ⟨H0, H1, H2, H3, H4, H5, HS, Hk⟩
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  iapply Hk
  isplitl [H0]; · iexact H0
  isplitl [H1]; · iexact H1
  isplitl [H2]; · iexact H2
  isplitl [H3]; · iapply (owns_of_writes c arg4 _ _ e3); iexact H3
  isplitl [H4]; · iexact H4
  isplitl [H5]; · iexact H5
  iexact HS
end later
end

end Cert.KernelIdeal.Run

end
-- ==== Proof.Pipe.lean ====
module

public import proofs.«01_k».proof.Proof.Triples

/-
  The run of the whole pipeline.

  The first grid point quantises the gradient, writes codes and scale into their buffers and lays the shifted image
  rows out in the scratch array.  Every point, the first included, stores one block of the weight gradient.  The
  buffers of the codes and of the scale are written at the first point only and copied out after the last.
-/
@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section region
variable (m : (l : Loc nD τ sig) → Buf (Elt F) l) (ρ : Dev nD → PrngReg)

/-- The first grid point. -/
abbrev pt0 : Fin cfg0.N := ⟨0, lt_of_lt_of_eq (by decide : 0 < 5) (show cfg0.N = 5 from N_0).symm⟩

/-- The gradient, as the first point holds it. -/
noncomputable abbrev dyIn (c : Dev nD) : Vec F S1536x640 .bf16 := iblk m c 2 pt0

/-- The block of the weight gradient that point `t` stores. -/
noncomputable def dwBlock (c : Dev nD) (t : Fin cfg0.N) : Vec F S9x384x640 .f32 :=
  slabBlock (iblk m c 0 t) (iblk m c 1 t) (scaleV (dyIn m c)) (scratchV (codesV (dyIn m c)))

/-- The scratch array before point `n`: at anything before the first point, filled from then on. -/
noncomputable def PhiS (c : Dev nD) : ℕ → sProp 𝕄
  | 0 => Pipeline.ΦA spec0 c
  | _ + 1 => iprop(iprop(owns (c : Thread nD τ) scM0_0 fullShare (scratchV (codesV (dyIn m c)))) ∗ (∃ r, prngReg c r))

theorem PhiS_pos (c : Dev nD) (n : ℕ) (hz : n ≠ 0) :
    PhiS m c n = iprop(iprop(owns (c : Thread nD τ) scM0_0 fullShare (scratchV (codesV (dyIn m c)))) ∗ (∃ r, prngReg c r)) := by
  cases n with
  | zero => exact absurd rfl hz
  | succ n => rfl

/-- What each buffer holds after the body at each point. -/
noncomputable def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => dwBlock m c t
    | ⟨4, _⟩ => codesV (dyIn m c)
    | ⟨5, _⟩ => scaleV (dyIn m c)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = dwBlock m c t := by dsimp only [dats]
theorem after0_4 (c : Dev nD) (t : Fin cfg0.N) : (dats m 0 c).after 4 t = codesV (dyIn m c) := by dsimp only [dats]
theorem after0_5 (c : Dev nD) (t : Fin cfg0.N) : (dats m 0 c).after 5 t = scaleV (dyIn m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The windows of codes and scale are stored at the first point and at no other. -/
theorem idle4 (t : Fin cfg0.N) : cfg0.idle 4 (cfg0.grid.coords t) = !decide (t.val % 5 = 0) := by
  have h := hcond0_0 t
  show (!(k0_cond1 (grid0.coords t) == 1#1)) = _
  by_cases ht : t.val % 5 = 0
  · have h' : k0_cond1 (grid0.coords t) = 1#1 := h.mpr ht
    simp [h', ht]
  · have h' : ¬k0_cond1 (grid0.coords t) = 1#1 := fun e => ht (h.mp e)
    simp [h', ht]

theorem idle5 (t : Fin cfg0.N) : cfg0.idle 5 (cfg0.grid.coords t) = !decide (t.val % 5 = 0) := idle4 t

/-- After the first point the buffer of the codes holds them. -/
theorem before0_4 (c : Dev nD) (d) : ∀ (n : ℕ) (h : n + 1 < cfg0.N),
    (dats m 0 c).before 4 ⟨n + 1, h⟩ d = codesV (dyIn m c)
  | n, h => by
    have hN : n + 1 < 5 := lt_of_lt_of_eq h (show cfg0.N = 5 from N_0)
    rw [Dat.before_of_pos _ 4 ⟨n + 1, h⟩ (Nat.succ_ne_zero n) rfl,
      if_neg (fun e => by have := (flush0_4 _).mp e; dsimp only at this; omega)]
    unfold Dat.left
    rw [idle4]
    cases n with
    | zero => rfl
    | succ n =>
      rw [show (!decide ((⟨n + 1 + 1 - 1, Nat.lt_of_le_of_lt (Nat.sub_le _ _) h⟩ : Fin cfg0.N).val % 5 = 0)) = true by
        simp; omega]
      exact before0_4 c d n _

/-- After the first point the buffer of the scale holds it. -/
theorem before0_5 (c : Dev nD) (d) : ∀ (n : ℕ) (h : n + 1 < cfg0.N),
    (dats m 0 c).before 5 ⟨n + 1, h⟩ d = scaleV (dyIn m c)
  | n, h => by
    have hN : n + 1 < 5 := lt_of_lt_of_eq h (show cfg0.N = 5 from N_0)
    rw [Dat.before_of_pos _ 5 ⟨n + 1, h⟩ (Nat.succ_ne_zero n) rfl,
      if_neg (fun e => by have := (flush0_5 _).mp e; dsimp only at this; omega)]
    unfold Dat.left
    rw [idle5]
    cases n with
    | zero => rfl
    | succ n =>
      rw [show (!decide ((⟨n + 1 + 1 - 1, Nat.lt_of_le_of_lt (Nat.sub_le _ _) h⟩ : Fin cfg0.N).val % 5 = 0)) = true by
        simp; omega]
      exact before0_5 c d n _

theorem before0_4_pos (c : Dev nD) (t : Fin cfg0.N) (h0 : ¬t.val % 5 = 0) (d) :
    (dats m 0 c).before 4 t d = codesV (dyIn m c) := by
  obtain ⟨n, h⟩ := t
  cases n with
  | zero => exact absurd rfl h0
  | succ n => exact before0_4 m c d n h

theorem before0_5_pos (c : Dev nD) (t : Fin cfg0.N) (h0 : ¬t.val % 5 = 0) (d) :
    (dats m 0 c).before 5 t d = scaleV (dyIn m c) := by
  obtain ⟨n, h⟩ := t
  cases n with
  | zero => exact absurd rfl h0
  | succ n => exact before0_5 m c d n h

/-- A buffer of codes that holds them is what the body has to leave, whichever point it is. -/
theorem leave4 (c : Dev nD) (t : Fin cfg0.N) :
    owns (c : Thread nD τ) (ms0_4 t) fullShare (codesV (dyIn m c)) ⊢ ((dats m 0 c).leavesExact 4 t : sProp 𝕄) := by
  unfold Dat.leavesExact
  rw [idle4, after0_4]
  by_cases ht : t.val % 5 = 0
  · rw [show (!decide (t.val % 5 = 0)) = false by simp [ht]]
  · rw [show (!decide (t.val % 5 = 0)) = true by simp [ht]]
    cases (cfg0.win 4).flush t
    · iintro H
      iexists (codesV (dyIn m c))
      rw [before0_4_pos m c t ht]
      iexact H
    · exact .rfl

theorem leave5 (c : Dev nD) (t : Fin cfg0.N) :
    owns (c : Thread nD τ) (ms0_5 t) fullShare (scaleV (dyIn m c)) ⊢ ((dats m 0 c).leavesExact 5 t : sProp 𝕄) := by
  unfold Dat.leavesExact
  rw [idle5, after0_5]
  by_cases ht : t.val % 5 = 0
  · rw [show (!decide (t.val % 5 = 0)) = false by simp [ht]]
  · rw [show (!decide (t.val % 5 = 0)) = true by simp [ht]]
    cases (cfg0.win 5).flush t
    · iintro H
      iexists (scaleV (dyIn m c))
      rw [before0_5_pos m c t ht]
      iexact H
    · exact .rfl

/-! ## The body at any point -/

/-- What the body is called with at point `t`, -/
noncomputable def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
noncomputable def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (dats m 0 c).leavesExact 4 t
    ∗ (dats m 0 c).leavesExact 5 t)

set_option maxHeartbeats 400000 in
/-- The body at any point: the first point finds the buffers at anything and fills them; a later one finds the codes,
    the scale and the scratch array as the first left them, and stores its block of the weight gradient. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.succ = PhiS m c (t.val + 1) from rfl, PhiS_pos m c (t.val + 1) (Nat.succ_ne_zero _),
    show (dats m 0 c).Φ t.castSucc = PhiS m c t.val from rfl]
  have hN : t.val < 5 := lt_of_lt_of_eq t.isLt (show cfg0.N = 5 from N_0)
  by_cases h0 : t.val % 5 = 0
  · obtain rfl : t = pt0 := Fin.ext (by show t.val = 0; omega)
    rw [show PhiS m c (pt0 : Fin cfg0.N).val = Pipeline.ΦA spec0 c from rfl, PhiA0_eq]
    iintro ⟨⟨HS0, Hg⟩, Ho, ⟨%d0, H0⟩, ⟨%d1, H1⟩, ⟨%d2, H2⟩, ⟨%d3, H3⟩, ⟨%d4, H4⟩, ⟨%d5, H5⟩⟩
    iapply (first_triple c (grid0.coords pt0) _ _ _ _ _ _ _ _ _ _ _ _ _ _ ((hcond0_0 pt0).mpr h0) (iblk m c 0 pt0) (iblk m c 1 pt0) (iblk m c 2 pt0) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · unfold dwBlock; iexact H3
    isplitl [H4]
    · iapply (leave4 m c pt0); iexact H4
    iapply (leave5 m c pt0); iexact H5
  · rw [PhiS_pos m c t.val (fun e => h0 (by rw [e]))]
    simp only [before0_4_pos m c t h0, before0_5_pos m c t h0]
    iintro ⟨⟨HS0, Hg⟩, Ho, ⟨%d0, H0⟩, ⟨%d1, H1⟩, ⟨%d2, H2⟩, ⟨%d3, H3⟩, ⟨%d4, H4⟩, ⟨%d5, H5⟩⟩
    iapply (later_triple c (grid0.coords t) _ _ _ _ _ _ _ _ _ _ _ _ _ _ (fun h => h0 ((hcond0_0 t).mp h)) (iblk m c 0 t) (iblk m c 1 t) (iblk m c 2 t) (codesV (dyIn m c)) (scaleV (dyIn m c)) (scratchV (codesV (dyIn m c))) Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · unfold dwBlock; iexact H3
    isplitl [H4]
    · iapply (leave4 m c t); iexact H4
    iapply (leave5 m c t); iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 5 := N_0; omega), PhiA0_eq]
  iintro ⟨HS0, Hg⟩
  isplitl [HS0]
  · iexists _; iexact HS0
  iexact Hg

/-! ## The run and the frame -/

set_option backward.isDefEq.respectTransparency.types false in
/-- Every run ends with each array at what the blocks make of it and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame of the program, at any reading of its floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end region

end Cert.KernelIdeal.Run

end
-- ==== Proof.Same.lean ====
module

public import proofs.«01_k».proof.Proof.Pipe
public import proofs.«01_k».proof.Proof.Gen.Kernel

/-
  The program as the devices run it and the program read over the extended reals have one text.  Its frame, proved for
  any reading of the floats, is therefore the frame of both.
-/
@[expose] public section

set_option maxRecDepth 16384

noncomputable section

namespace Cert.Kernel.Run

open Idealize.ShloMosaic

variable {F : FTy → Type} [FloatOps F]

theorem defs₀_eq : @Cert.Kernel.defs₀ F _ _ = @Cert.KernelIdeal.defs₀ F _ _ := by
  unfold Cert.Kernel.defs₀ Cert.KernelIdeal.defs₀
  refine congrArg _ ?_
  funext l a
  match l, a with
  | 0, (t, s) => rfl

theorem defs_eq : @Cert.Kernel.defs F _ _ = @Cert.KernelIdeal.defs F _ _ := by
  unfold Cert.Kernel.defs Cert.KernelIdeal.defs
  rw [← defs₀_eq]
  rfl

theorem main_eq : Cert.Kernel.main (F := F) = Cert.KernelIdeal.main (F := F) := rfl

theorem frame (m : (l : Loc Cert.Kernel.nD Cert.Kernel.τ Cert.Kernel.sig) → Buf (Elt F) l) (ρ : Dev Cert.Kernel.nD → PrngReg) :
    θ_run Cert.Kernel.defs (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defs_eq, main_eq]
  exact Cert.KernelIdeal.Run.frame m ρ

end Cert.Kernel.Run

end
-- ==== Proof.Arrays.lean ====
module

public import proofs.«01_k».proof.Proof.Pipe
public import Idealize.ShloMosaic.Lib.Pipeline.Value

/-
  What the three result arrays hold after a run, and what the blocks that the points read are, from the arguments.
-/
@[expose] public section
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section region
variable (m : (l : Loc nD τ sig) → Buf (Elt F) l) (ρ : Dev nD → PrngReg)

/-! ## The weight gradient: five blocks of 384 input channels -/

/-- The grid point that stores the block holding place `i`. -/
abbrev pointOf (i : S9x1920x640.Idx) : Fin cfg0.N :=
  ⟨(i 1).val / 384, lt_of_lt_of_eq (by have h : (i 1).val < 1920 := (i 1).isLt; omega) (show cfg0.N = 5 from N_0).symm⟩

/-- Place `i` within its block. -/
abbrev within (i : S9x1920x640.Idx) : S9x384x640.Idx := fun a => match a with
  | ⟨0, _⟩ => ⟨(i 0).val, (i 0).isLt⟩
  | ⟨1, _⟩ => ⟨(i 1).val % 384, Nat.mod_lt _ (by decide)⟩
  | ⟨2, _⟩ => ⟨(i 2).val, (i 2).isLt⟩

/-- The weight gradient after the run. -/
noncomputable def dwArr (c : Dev nD) : Vec F S9x1920x640 .f32 := fun i => dwBlock m c (pointOf i) (within i)

theorem dwArr_apply (c : Dev nD) (i : S9x1920x640.Idx) (t : Fin cfg0.N) (y : S9x384x640.Idx) (hp : pointOf i = t)
    (hl : within i = y) : dwArr m c i = dwBlock m c t y := by
  subst hp hl
  rfl

theorem idx_facts3 : ∀ t : Fin cfg0.N, win0_3.index t (0 : Fin 3) = 0 ∧ win0_3.index t (1 : Fin 3) = t.val
    ∧ win0_3.index t (2 : Fin 3) = 0 :=
  (by decide +kernel : ∀ t : Fin grid0.N, _)

theorem flush3 : ∀ t : Fin cfg0.N, (cfg0.win 3).flush t = true :=
  (by decide +kernel : ∀ t : Fin grid0.N, win0_3.flush t = true)

/-- Block `t` of an array put together from blocks is block `t`. -/
theorem cut_block (B : Fin cfg0.N → Vec F S9x384x640 .f32) (t : Fin cfg0.N) :
    (cfg0.win 3).cut (grid0.coords t) (B t) = ((cfg0.win 3).blk t).view.read (Elt F) (fun i : S9x1920x640.Idx => B (pointOf i) (within i)) := by
  obtain ⟨e0, e1, e2⟩ := idx_facts3 t
  funext y
  have hy1 : (y 1).val < 384 := (y 1).isLt
  have hb0 : (((cfg0.win 3).blk t).view.emb y 0).val = win0_3.index t (0 : Fin 3) * 9 + 1 * (y 0).val := rfl
  have hb1 : (((cfg0.win 3).blk t).view.emb y 1).val = win0_3.index t (1 : Fin 3) * 384 + 1 * (y 1).val := rfl
  have hb2 : (((cfg0.win 3).blk t).view.emb y 2).val = win0_3.index t (2 : Fin 3) * 640 + 1 * (y 2).val := rfl
  have hp : pointOf (((cfg0.win 3).blk t).view.emb y) = t := by
    apply Fin.ext
    show (((cfg0.win 3).blk t).view.emb y 1).val / 384 = t.val
    rw [hb1]; omega
  have hl : within (((cfg0.win 3).blk t).view.emb y) = (cfg0.win 3).xinj (grid0.coords t) y := by
    funext a; apply Fin.ext
    match a with
    | ⟨0, _⟩ => show (((cfg0.win 3).blk t).view.emb y 0).val = (y 0).val; rw [hb0]; omega
    | ⟨1, _⟩ => show (((cfg0.win 3).blk t).view.emb y 1).val % 384 = (y 1).val; rw [hb1]; omega
    | ⟨2, _⟩ => show (((cfg0.win 3).blk t).view.emb y 2).val = (y 2).val; rw [hb2]; omega
  show B t ((cfg0.win 3).xinj (grid0.coords t) y) = B (pointOf (((cfg0.win 3).blk t).view.emb y)) (within (((cfg0.win 3).blk t).view.emb y))
  rw [hp, hl]

/-- What point `t` writes back is its block of the weight gradient. -/
theorem flushed3_eq (c : Dev nD) (t : Fin cfg0.N) :
    (dats m 0 c).flushed 3 t = ((cfg0.win 3).blk t).view.read (Elt F) (dwArr m c) := by
  show (cfg0.win 3).cut (grid0.coords t) ((dats m 0 c).after 3 t) = _
  rw [after0_3]
  exact cut_block (dwBlock m c) t

theorem mem_blk3 (t : Fin cfg0.N) (i : S9x1920x640.Idx) :
    i ∈ ((cfg0.win 3).blk t).view.set ↔ ∀ a : Fin 3, win0_3.index t a * S9x384x640.size a ≤ (i a).val ∧ (i a).val < win0_3.index t a * S9x384x640.size a + S9x384x640.size a := by
  show i ∈ ((View.whole main_v3_0).slice (win0_3.rect t)).set ↔ _
  rw [View.set_slice_whole, Rect.mem_set_unit]
  exact Iff.rfl

/-- The first result after the run. -/
theorem final3 (c : Dev nD) : (dats m 0 c).arrAt 3 cfg0.N = dwArr m c :=
  (dats m 0 c).arrAt_eq_of_cover 3 _ (fun t _ => flushed3_eq m c t) (fun i => ⟨pointOf i, flush3 _, by
    have hi0 : (i 0).val < 9 := (i 0).isLt
    have hi1 : (i 1).val < 1920 := (i 1).isLt
    have hi2 : (i 2).val < 640 := (i 2).isLt
    obtain ⟨e0, e1, e2⟩ := idx_facts3 (pointOf i)
    have e1' : win0_3.index (pointOf i) (1 : Fin 3) = (i 1).val / 384 := e1
    rw [mem_blk3]
    intro a
    match a with
    | ⟨0, _⟩ => show win0_3.index _ (0 : Fin 3) * 9 ≤ (i 0).val ∧ (i 0).val < win0_3.index _ (0 : Fin 3) * 9 + 9; omega
    | ⟨1, _⟩ => show win0_3.index _ (1 : Fin 3) * 384 ≤ (i 1).val ∧ (i 1).val < win0_3.index _ (1 : Fin 3) * 384 + 384; omega
    | ⟨2, _⟩ => show win0_3.index _ (2 : Fin 3) * 640 ≤ (i 2).val ∧ (i 2).val < win0_3.index _ (2 : Fin 3) * 640 + 640; omega⟩)

/-! ## The codes: one block, written back after the last point -/

theorem idx_facts4 : ∀ t : Fin cfg0.N, win0_4.index t (0 : Fin 2) = 0 ∧ win0_4.index t (1 : Fin 2) = 0 :=
  (by decide +kernel : ∀ t : Fin grid0.N, _)

/-- The last grid point. -/
theorem flush4_last : (cfg0.win 4).flush ⟨4, lt_of_lt_of_eq (by decide : 4 < 5) (show cfg0.N = 5 from N_0).symm⟩ = true :=
  (flush0_4 _).2 rfl

theorem flushed4_eq (c : Dev nD) (t : Fin cfg0.N) :
    (dats m 0 c).flushed 4 t = ((cfg0.win 4).blk t).view.read (Elt F) (codesV (dyIn m c)) := by
  show (cfg0.win 4).cut (grid0.coords t) ((dats m 0 c).after 4 t) = _
  rw [after0_4]
  obtain ⟨e0, e1⟩ := idx_facts4 t
  funext y
  have hb0 : (((cfg0.win 4).blk t).view.emb y 0).val = win0_4.index t (0 : Fin 2) * 1536 + 1 * (y 0).val := rfl
  have hb1 : (((cfg0.win 4).blk t).view.emb y 1).val = win0_4.index t (1 : Fin 2) * 640 + 1 * (y 1).val := rfl
  have hl : (((cfg0.win 4).blk t).view.emb y) = (cfg0.win 4).xinj (grid0.coords t) y := by
    funext a; apply Fin.ext
    match a with
    | ⟨0, _⟩ => show (((cfg0.win 4).blk t).view.emb y 0).val = (y 0).val; rw [hb0]; omega
    | ⟨1, _⟩ => show (((cfg0.win 4).blk t).view.emb y 1).val = (y 1).val; rw [hb1]; omega
  show codesV (dyIn m c) ((cfg0.win 4).xinj (grid0.coords t) y) = codesV (dyIn m c) (((cfg0.win 4).blk t).view.emb y)
  rw [hl]

theorem mem_blk4 (t : Fin cfg0.N) (i : S1536x640.Idx) :
    i ∈ ((cfg0.win 4).blk t).view.set ↔ ∀ a : Fin 2, win0_4.index t a * S1536x640.size a ≤ (i a).val ∧ (i a).val < win0_4.index t a * S1536x640.size a + S1536x640.size a := by
  show i ∈ ((View.whole main_v3_1).slice (win0_4.rect t)).set ↔ _
  rw [View.set_slice_whole, Rect.mem_set_unit]
  exact Iff.rfl

theorem final4 (c : Dev nD) : (dats m 0 c).arrAt 4 cfg0.N = codesV (dyIn m c) :=
  (dats m 0 c).arrAt_eq_of_cover 4 _ (fun t _ => flushed4_eq m c t) (fun i => ⟨_, flush4_last, by
    have hi0 : (i 0).val < 1536 := (i 0).isLt
    have hi1 : (i 1).val < 640 := (i 1).isLt
    obtain ⟨e0, e1⟩ := idx_facts4 ⟨4, lt_of_lt_of_eq (by decide : 4 < 5) (show cfg0.N = 5 from N_0).symm⟩
    rw [mem_blk4]
    intro a
    match a with
    | ⟨0, _⟩ => show win0_4.index _ (0 : Fin 2) * 1536 ≤ (i 0).val ∧ (i 0).val < win0_4.index _ (0 : Fin 2) * 1536 + 1536; omega
    | ⟨1, _⟩ => show win0_4.index _ (1 : Fin 2) * 640 ≤ (i 1).val ∧ (i 1).val < win0_4.index _ (1 : Fin 2) * 640 + 640; omega⟩)

/-! ## The scale: the same -/

theorem idx_facts5 : ∀ t : Fin cfg0.N, win0_5.index t (0 : Fin 2) = 0 ∧ win0_5.index t (1 : Fin 2) = 0 :=
  (by decide +kernel : ∀ t : Fin grid0.N, _)

/-- The last grid point. -/
theorem flush5_last : (cfg0.win 5).flush ⟨4, lt_of_lt_of_eq (by decide : 4 < 5) (show cfg0.N = 5 from N_0).symm⟩ = true :=
  (flush0_5 _).2 rfl

theorem flushed5_eq (c : Dev nD) (t : Fin cfg0.N) :
    (dats m 0 c).flushed 5 t = ((cfg0.win 5).blk t).view.read (Elt F) (scaleV (dyIn m c)) := by
  show (cfg0.win 5).cut (grid0.coords t) ((dats m 0 c).after 5 t) = _
  rw [after0_5]
  obtain ⟨e0, e1⟩ := idx_facts5 t
  funext y
  have hb0 : (((cfg0.win 5).blk t).view.emb y 0).val = win0_5.index t (0 : Fin 2) * 1 + 1 * (y 0).val := rfl
  have hb1 : (((cfg0.win 5).blk t).view.emb y 1).val = win0_5.index t (1 : Fin 2) * 640 + 1 * (y 1).val := rfl
  have hl : (((cfg0.win 5).blk t).view.emb y) = (cfg0.win 5).xinj (grid0.coords t) y := by
    funext a; apply Fin.ext
    match a with
    | ⟨0, _⟩ => show (((cfg0.win 5).blk t).view.emb y 0).val = (y 0).val; rw [hb0]; omega
    | ⟨1, _⟩ => show (((cfg0.win 5).blk t).view.emb y 1).val = (y 1).val; rw [hb1]; omega
  show scaleV (dyIn m c) ((cfg0.win 5).xinj (grid0.coords t) y) = scaleV (dyIn m c) (((cfg0.win 5).blk t).view.emb y)
  rw [hl]

theorem mem_blk5 (t : Fin cfg0.N) (i : S1x640.Idx) :
    i ∈ ((cfg0.win 5).blk t).view.set ↔ ∀ a : Fin 2, win0_5.index t a * S1x640.size a ≤ (i a).val ∧ (i a).val < win0_5.index t a * S1x640.size a + S1x640.size a := by
  show i ∈ ((View.whole main_v3_2).slice (win0_5.rect t)).set ↔ _
  rw [View.set_slice_whole, Rect.mem_set_unit]
  exact Iff.rfl

theorem final5 (c : Dev nD) : (dats m 0 c).arrAt 5 cfg0.N = scaleV (dyIn m c) :=
  (dats m 0 c).arrAt_eq_of_cover 5 _ (fun t _ => flushed5_eq m c t) (fun i => ⟨_, flush5_last, by
    have hi0 : (i 0).val < 1 := (i 0).isLt
    have hi1 : (i 1).val < 640 := (i 1).isLt
    obtain ⟨e0, e1⟩ := idx_facts5 ⟨4, lt_of_lt_of_eq (by decide : 4 < 5) (show cfg0.N = 5 from N_0).symm⟩
    rw [mem_blk5]
    intro a
    match a with
    | ⟨0, _⟩ => show win0_5.index _ (0 : Fin 2) * 1 ≤ (i 0).val ∧ (i 0).val < win0_5.index _ (0 : Fin 2) * 1 + 1; omega
    | ⟨1, _⟩ => show win0_5.index _ (1 : Fin 2) * 640 ≤ (i 1).val ∧ (i 1).val < win0_5.index _ (1 : Fin 2) * 640 + 640; omega⟩)

/-! ## What the windows read, from the arguments -/

/-- The gradient, an image's pixels in one row per pixel. -/
noncomputable abbrev dyArr (c : Dev nD) : Vec F S1536x640 .bf16 := V m c main_v1

theorem dyArr_eq (c : Dev nD) : dyArr m c = shapeCast S1536x640 (m ((c : Thread nD τ).loc main_arg2)) shapeCasts_S6x8x32x640_S1536x640 := by
  unfold dyArr V; dsimp only [hostOps0, List.flatten_cons, List.flatten_nil, List.append_nil, List.cons_append, List.nil_append]
  entry_read
  rfl

theorem x_arr_eq (c : Dev nD) : (V m c main_v0 : Vec F S1536x1920 .fp8e4m3) = shapeCast S1536x1920 (m ((c : Thread nD τ).loc main_arg0)) shapeCasts_S6x8x32x1920_S1536x1920 := by
  unfold V; dsimp only [hostOps0, List.flatten_cons, List.flatten_nil, List.append_nil, List.cons_append, List.nil_append]
  entry_read
  rfl

theorem xs_arr_eq (c : Dev nD) : (V m c main_v2 : Vec F S1920x1 .f32) = shapeCast S1920x1 (m ((c : Thread nD τ).loc main_arg1)) shapeCasts_S1920_S1920x1 := by
  unfold V; dsimp only [hostOps0, List.flatten_cons, List.flatten_nil, List.append_nil, List.cons_append, List.nil_append]
  entry_read
  rfl

/-- The gradient's block is the whole array. -/
theorem dyIn_eq (c : Dev nD) : dyIn m c = dyArr m c := by
  funext y
  have e : ∀ a : Fin 2, win0_2.index pt0 a = 0 := (by decide +kernel : ∀ a : Fin 2, win0_2.index (⟨0, lt_of_lt_of_eq (by decide : 0 < 5) N_0.symm⟩ : Fin grid0.N) a = 0)
  have hl : (((cfg0.win 2).blk pt0).view.emb y) = y := by
    funext a; apply Fin.ext
    match a with
    | ⟨0, _⟩ => show win0_2.index pt0 (0 : Fin 2) * 1536 + 1 * (y 0).val = (y 0).val; rw [e]; omega
    | ⟨1, _⟩ => show win0_2.index pt0 (1 : Fin 2) * 640 + 1 * (y 1).val = (y 1).val; rw [e]; omega
  show V m c main_v1 (((cfg0.win 2).blk pt0).view.emb y) = V m c main_v1 y
  rw [hl]

/-- Point `t` reads the input's columns `384 t` to `384 t + 383`, -/
theorem x_block (c : Dev nD) (t : Fin cfg0.N) (y : S1536x384.Idx) (z : S1536x1920.Idx) (h0 : (z 0).val = (y 0).val)
    (h1 : (z 1).val = t.val * 384 + (y 1).val) : (iblk m c 0 t : Vec F S1536x384 .fp8e4m3) y = V m c main_v0 z := by
  have e : ∀ t : Fin cfg0.N, win0_0.index t (0 : Fin 2) = 0 ∧ win0_0.index t (1 : Fin 2) = t.val :=
    (by decide +kernel : ∀ t : Fin grid0.N, _)
  have hl : (((cfg0.win 0).blk t).view.emb y) = z := by
    funext a; apply Fin.ext
    match a with
    | ⟨0, _⟩ => show win0_0.index t (0 : Fin 2) * 1536 + 1 * (y 0).val = (z 0).val; rw [(e t).1]; omega
    | ⟨1, _⟩ => show win0_0.index t (1 : Fin 2) * 384 + 1 * (y 1).val = (z 1).val; rw [(e t).2]; omega
  show V m c main_v0 (((cfg0.win 0).blk t).view.emb y) = V m c main_v0 z
  rw [hl]

/-- and the scales of those columns. -/
theorem xs_block (c : Dev nD) (t : Fin cfg0.N) (y : S384x1.Idx) (z : S1920x1.Idx) (h0 : (z 0).val = t.val * 384 + (y 0).val) :
    (iblk m c 1 t : Vec F S384x1 .f32) y = V m c main_v2 z := by
  have e : ∀ t : Fin cfg0.N, win0_1.index t (0 : Fin 2) = t.val ∧ win0_1.index t (1 : Fin 2) = 0 :=
    (by decide +kernel : ∀ t : Fin grid0.N, _)
  have hl : (((cfg0.win 1).blk t).view.emb y) = z := by
    funext a; apply Fin.ext
    match a with
    | ⟨0, _⟩ => show win0_1.index t (0 : Fin 2) * 384 + 1 * (y 0).val = (z 0).val; rw [(e t).1]; omega
    | ⟨1, _⟩ => show win0_1.index t (1 : Fin 2) * 1 + 1 * (y 1).val = (z 1).val; rw [(e t).2]; have h : (y 1).val < 1 := (y 1).isLt; have h' : (z 1).val < 1 := (z 1).isLt; omega
  show V m c main_v2 (((cfg0.win 1).blk t).view.emb y) = V m c main_v2 z
  rw [hl]

/-! ## The run -/

/-- Every run ends with the three results at these values and the arguments unchanged. -/
theorem run_values : θ_run defs (onTc (τ := τ) (main (F := F))) ⟨m, fun _ => 0, ρ⟩ (fun r => ∀ c : Dev nD,
      r.2.mem ((c.tc : Thread nD τ).loc main_v3_0) = dwArr m c
      ∧ r.2.mem ((c.tc : Thread nD τ).loc main_v3_1) = codesV (dyArr m c)
      ∧ r.2.mem ((c.tc : Thread nD τ).loc main_v3_2) = scaleV (dyArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final3 m c),
      (((h.1 c).1 4).trans (final4 m c)).trans (by rw [dyIn_eq]),
      (((h.1 c).1 5).trans (final5 m c)).trans (by rw [dyIn_eq]), h.2 c⟩)
    (θ_run_and (run_main m ρ) (unchanged m ρ))

end region

end Cert.KernelIdeal.Run

end
-- ==== Proof.Scratch.lean ====
module

public import proofs.«01_k».proof.Proof.Triples
public import Idealize.ShloMosaic.Lib.Pointwise

/-
  The scratch array in closed form: which pixel of the codes each of its rows holds.
-/
@[expose] public section

set_option maxRecDepth 16384

noncomputable section

namespace Cert.KernelIdeal.Run

open Cert.KernelIdeal.Gen
open Idealize.ShloMosaic Idealize.ShloMosaic.TcCoe Idealize.ShloMosaic.Tactic

/-! ## The scratch array in closed form -/

/-- The all-zero word of a code is the number 0. -/
theorem code_zero : Ideal.ofBits .fp8e5m2 0x00#8 = 0 := Ideal.ofBits_zero .fp8e5m2

/-- The zero rows at an index. -/
theorem zero_rows_at (j : S32x640.Idx) : k0_pay7 (F := Ideal) j = 0 := by
  pointwise [k0_pay7]
  exact code_zero

/-- An image row of the codes at an index. -/
theorem imgRow_at (codes : FVec Ideal S1536x640 .fp8e5m2) (t : ℕ) (ht : t < 48) (j : S32x640.Idx) (z : S1536x640.Idx)
    (z0 : (z 0).val = t * 32 + (j 0).val) (z1 : (z 1).val = (j 1).val) : imgRow codes t ht j = codes z := by
  unfold imgRow
  pointwise []
  refine congrArg codes (funext fun a => ?_)
  match a with
  | ⟨0, _⟩ => exact Fin.ext z0.symm
  | ⟨1, _⟩ => exact Fin.ext z1.symm

/-- A shifted image row at a place some pixel `z` lands on. -/
theorem shifted_pos (kw : ℕ) (hk : kw < 3) (c : FVec Ideal S32x640 .fp8e5m2) (j z : S32x640.Idx)
    (z0 : (z 0).val + kw = (j 0).val + 1) (z1 : (z 1).val = (j 1).val) : shifted kw c j = c z := by
  have hj : (j 0).val < 32 := (j 0).isLt
  have hz : (z 0).val < 32 := (z 0).isLt
  match kw, hk with
  | 0, _ =>
    unfold shifted
    pointwise [k0_pay7]
    refine (dif_pos (show (j 0).val < 31 by omega)).trans (congrArg c (funext fun a => ?_))
    match a with
    | ⟨0, _⟩ => exact Fin.ext (by show 1 + (j 0).val = (z 0).val; omega)
    | ⟨1, _⟩ => exact Fin.ext z1.symm
  | 1, _ =>
    show c j = _
    refine congrArg c (funext fun a => ?_)
    match a with
    | ⟨0, _⟩ => exact Fin.ext (by show (j 0).val = (z 0).val; omega)
    | ⟨1, _⟩ => exact Fin.ext z1.symm
  | 2, _ =>
    unfold shifted
    pointwise [k0_pay7]
    refine (dif_neg (show ¬ (j 0).val < 1 by omega)).trans (congrArg c (funext fun a => ?_))
    match a with
    | ⟨0, _⟩ => exact Fin.ext (by show (j 0).val - 1 = (z 0).val; omega)
    | ⟨1, _⟩ => exact Fin.ext z1.symm

/-- A shifted image row at the place no pixel lands on. -/
theorem shifted_neg (kw : ℕ) (hk : kw < 3) (c : FVec Ideal S32x640 .fp8e5m2) (j : S32x640.Idx)
    (h : ¬ (kw ≤ (j 0).val + 1 ∧ (j 0).val + 1 < 32 + kw)) : shifted kw c j = 0 := by
  have hj : (j 0).val < 32 := (j 0).isLt
  match kw, hk with
  | 0, _ =>
    unfold shifted
    pointwise [k0_pay7]
    exact (dif_neg (show ¬ (j 0).val < 31 by omega)).trans code_zero
  | 1, _ => omega
  | 2, _ =>
    unfold shifted
    pointwise [k0_pay7]
    exact (dif_pos (show (j 0).val < 1 by omega)).trans code_zero

section
variable (codes : FVec Ideal S1536x640 .fp8e5m2) (y : S3x1760x640.Idx)

theorem rowPiece_at (n : ℕ) (hn : n < 144) (x : S1x32x640.Idx) :
    (rowPiece codes n hn).2 x = shifted (n % 3) (imgRow codes (n / 3) (by omega)) (ix2 (n0 := 32) (n1 := 640) (x 1) (x 2)) := by
  show shapeCast S1x32x640 (shifted (n % 3) (imgRow codes (n / 3) (by omega))) shapeCasts_S32x640_S1x32x640 (x : S1x32x640.Idx) = _
  pointwise []

theorem zeroPiece_at (n : ℕ) (hn : n < 21) (x : S1x32x640.Idx) : (zeroPiece (F := Ideal) n hn).2 x = 0 := by
  show shapeCast S1x32x640 (k0_pay7 (F := Ideal)) shapeCasts_S32x640_S1x32x640 (x : S1x32x640.Idx) = _
  pointwise []
  exact zero_rows_at _

/-- Block `r / 32` of 32 rows of the scratch array holds an image row unless its number is a multiple of nine; row
    `p` of that block of panel `kw` holds the pixel `p + 1 - kw`, -/
theorem scratch_pos (z : S1536x640.Idx) (hb : (y 1).val / 32 % 9 ≠ 0)
    (z0 : (z 0).val / 32 = (y 1).val / 32 - (y 1).val / 32 / 9 - 1)
    (z1 : (z 0).val % 32 + (y 0).val = (y 1).val % 32 + 1) (z2 : (z 1).val = (y 2).val) : scratchV codes y = codes z := by
  have h0 : (y 0).val < 3 := (y 0).isLt
  have h1 : (y 1).val < 1760 := (y 1).isLt
  refine View.canon_eq_of_allAt _ _ _ (scratch_cover codes y) ?_
  intro p hp x hx
  rcases List.mem_append.1 hp with hp | hp
  · obtain ⟨n, hn, rfl⟩ := (mem_upTo _ _ _ _).1 hp
    have x1 : (x 1).val < 32 := (x 1).isLt
    have x0 : (x 0).val < 1 := (x 0).isLt
    have e0 : n % 3 + 1 * (x 0).val = (y 0).val := congrArg Fin.val (congrFun hx 0)
    have e1 : (n / 3 + n / 24 + 1) * 32 + 1 * (x 1).val = (y 1).val := congrArg Fin.val (congrFun hx 1)
    have e2 : 0 + 1 * (x 2).val = (y 2).val := congrArg Fin.val (congrFun hx 2)
    refine (rowPiece_at codes n hn x).trans ?_
    refine (shifted_pos (n % 3) (by omega) _ _ (ix2 (n0 := 32) (n1 := 640) ⟨(z 0).val % 32, by omega⟩ (z 1)) ?_ ?_).trans ?_
    · show (z 0).val % 32 + n % 3 = (x 1).val + 1
      omega
    · show (z 1).val = (x 2).val
      omega
    · refine imgRow_at codes _ _ _ z ?_ rfl
      show (z 0).val = n / 3 * 32 + (z 0).val % 32
      omega
  · obtain ⟨n, hn, rfl⟩ := (mem_upTo _ _ _ _).1 hp
    have x1 : (x 1).val < 32 := (x 1).isLt
    have e1 : n / 3 * 9 * 32 + 1 * (x 1).val = (y 1).val := congrArg Fin.val (congrFun hx 1)
    omega

/-- and zero stands everywhere else. -/
theorem scratch_neg (h : (y 1).val / 32 % 9 = 0 ∨ ¬ ((y 0).val ≤ (y 1).val % 32 + 1 ∧ (y 1).val % 32 + 1 < 32 + (y 0).val)) :
    scratchV codes y = 0 := by
  have h0 : (y 0).val < 3 := (y 0).isLt
  have h1 : (y 1).val < 1760 := (y 1).isLt
  refine View.canon_eq_of_allAt _ _ _ (scratch_cover codes y) ?_
  intro p hp x hx
  rcases List.mem_append.1 hp with hp | hp
  · obtain ⟨n, hn, rfl⟩ := (mem_upTo _ _ _ _).1 hp
    have x1 : (x 1).val < 32 := (x 1).isLt
    have x0 : (x 0).val < 1 := (x 0).isLt
    have e0 : n % 3 + 1 * (x 0).val = (y 0).val := congrArg Fin.val (congrFun hx 0)
    have e1 : (n / 3 + n / 24 + 1) * 32 + 1 * (x 1).val = (y 1).val := congrArg Fin.val (congrFun hx 1)
    refine (rowPiece_at codes n hn x).trans ?_
    refine shifted_neg (n % 3) (by omega) _ _ ?_
    show ¬ (n % 3 ≤ (x 1).val + 1 ∧ (x 1).val + 1 < 32 + n % 3)
    omega
  · obtain ⟨n, hn, rfl⟩ := (mem_upTo _ _ _ _).1 hp
    exact zeroPiece_at n hn x
end

end Cert.KernelIdeal.Run

end
-- ==== Proof.Slab.lean ====
module

public import proofs.«01_k».proof.Proof.Triples
public import Idealize.ShloMosaic.Lib.Pointwise

/-
  One block of the weight gradient in closed form.
-/
@[expose] public section

set_option maxRecDepth 16384

noncomputable section

namespace Cert.KernelIdeal.Run

open Cert.KernelIdeal.Gen
open Idealize.ShloMosaic Idealize.ShloMosaic.TcCoe Idealize.ShloMosaic.Tactic

/-! ## One block of the weight gradient in closed form -/

/-- The transposed input block at an index. -/
theorem xT_at (x : Vec Ideal S1536x384 .fp8e4m3) (j : S384x1536.Idx) : k0_pay248 x j = x (ix2 (n0 := 1536) (n1 := 384) (j 1) (j 0)) := by
  pointwise [k0_pay248]

/-- The product of the two scales at an index. -/
theorem comb_at (xs : Vec Ideal S384x1 .f32) (sc : Vec Ideal S1x640 .f32) (j : S384x640.Idx) :
    k0_pay247 xs sc j = xs (ix2 (n0 := 384) (n1 := 1) (j 0) 0) * sc (ix2 (n0 := 1) (n1 := 640) 0 (j 1)) := by
  pointwise [k0_pay247]

/-- One image's product at an index. -/
theorem tapDot_at (xT : FVec Ideal S384x1536 .fp8e4m3) (b : ℕ) (hb : b < 6) (rows : Vec Ideal S1x256x640 .fp8e5m2) (j : S384x640.Idx) :
    tapDot xT b hb rows j = ∑ p : Fin 256, xT (ix2 (n0 := 384) (n1 := 1536) (j 0) ⟨b * 256 + p.val, by omega⟩)
      * rows (ix3 (n0 := 1) (n1 := 256) (n2 := 640) 0 p (j 1)) := by
  unfold tapDot
  pointwise []

/-- The all-zero word of a result is the number 0. -/
theorem float_zero : Ideal.ofBits .f32 0x00000000#32 = 0 := Ideal.ofBits_zero_f32

/-- The images' products summed are the sum of the images' products. -/
theorem tapSum_at (xT : FVec Ideal S384x1536 .fp8e4m3) (ld : (b : ℕ) → b < 6 → Vec Ideal S1x256x640 .fp8e5m2) (j : S384x640.Idx) :
    ∀ (n : ℕ) (h : n ≤ 6), tapSum xT ld n h j
      = ∑ b : Fin n, tapDot xT b.val (lt_of_lt_of_le b.isLt h) (ld b.val (lt_of_lt_of_le b.isLt h)) j
  | 0, _ => by
      rw [Finset.univ_eq_empty, Finset.sum_empty]
      exact float_zero
  | n + 1, h => by
      rw [Fin.sum_univ_castSucc]
      show tapSum xT ld n _ j + tapDot xT n h (ld n h) j = _
      rw [tapSum_at xT ld j n]
      rfl

/-- A slab at an index. -/
theorem slab_at (xT : FVec Ideal S384x1536 .fp8e4m3) (comb : FVec Ideal S384x640 .f32)
    (ld : (b : ℕ) → b < 6 → Vec Ideal S1x256x640 .fp8e5m2) (j : S1x384x640.Idx) :
    slab xT comb ld j = tapSum xT ld 6 le_rfl (ix2 (n0 := 384) (n1 := 640) (j 1) (j 2)) * comb (ix2 (n0 := 384) (n1 := 640) (j 1) (j 2)) := by
  unfold slab
  pointwise []

/-- A load of the rows of the scratch array that meet image `b` at filter tap `n`. -/
theorem tap_load (R : Vec Ideal S3x1760x640 .fp8e5m2) (n b : ℕ) (hn : n < 9) (hb : b < 6) (p : Fin 256) (d : Fin 640) :
    (View.ld R (tapRect n b hn hb) : Vec Ideal S1x256x640 .fp8e5m2) (ix3 (n0 := 1) (n1 := 256) (n2 := 640) 0 p d)
      = R (ix3 (n0 := 3) (n1 := 1760) (n2 := 640) ⟨n % 3, by omega⟩ ⟨(b * 9 + 2 - n / 3) * 32 + p.val, by omega⟩ d) := by
  refine congrArg R (funext fun a => Fin.ext ?_)
  match a with
  | ⟨0, _⟩ => rfl
  | ⟨1, _⟩ => show (b * 9 + 2 - n / 3) * 32 + 1 * p.val = (b * 9 + 2 - n / 3) * 32 + p.val; omega
  | ⟨2, _⟩ => show 0 + 1 * d.val = d.val; omega

/-- The block of the weight gradient: at tap `n`, input channel `i` and output channel `d` the six images' sums of
    256 products each, times the two scales. -/
theorem slabBlock_at (x : Vec Ideal S1536x384 .fp8e4m3) (xs : Vec Ideal S384x1 .f32) (sc : Vec Ideal S1x640 .f32)
    (R : Vec Ideal S3x1760x640 .fp8e5m2) (y : S9x384x640.Idx) :
    slabBlock x xs sc R y
      = (∑ b : Fin 6, ∑ p : Fin 256,
          x (ix2 (n0 := 1536) (n1 := 384) ⟨b.val * 256 + p.val, by omega⟩ (y 1))
            * R (ix3 (n0 := 3) (n1 := 1760) (n2 := 640) ⟨(y 0).val % 3, by omega⟩
                ⟨(b.val * 9 + 2 - (y 0).val / 3) * 32 + p.val, by omega⟩ (y 2)))
        * (xs (ix2 (n0 := 384) (n1 := 1) (y 1) 0) * sc (ix2 (n0 := 1) (n1 := 640) 0 (y 2))) := by
  refine View.canon_eq_of_allAt _ _ _ (slab_cover x xs sc R y) ?_
  intro p hp z hz
  obtain ⟨n, hn, rfl⟩ := (mem_upTo _ _ _ _).1 hp
  have z0 : (z 0).val < 1 := (z 0).isLt
  have e0 : n + 1 * (z 0).val = (y 0).val := congrArg Fin.val (congrFun hz 0)
  have e1 : 0 + 1 * (z 1).val = (y 1).val := congrArg Fin.val (congrFun hz 1)
  have e2 : 0 + 1 * (z 2).val = (y 2).val := congrArg Fin.val (congrFun hz 2)
  obtain rfl : n = (y 0).val := by omega
  have f1 : (z 1 : Fin 384) = y 1 := Fin.ext (by omega)
  have f2 : (z 2 : Fin 640) = y 2 := Fin.ext (by omega)
  refine (slab_at _ _ _ z).trans ?_
  rw [show (ix2 (n0 := 384) (n1 := 640) (z 1) (z 2)) = ix2 (n0 := 384) (n1 := 640) (y 1) (y 2) from by rw [f1, f2]]
  rw [tapSum_at, comb_at]
  congr 1
  refine Finset.sum_congr rfl fun b _ => ?_
  rw [tapDot_at]
  refine Finset.sum_congr rfl fun p _ => ?_
  rw [xT_at]
  exact congrArg (_ * ·) (tap_load R _ _ _ _ p (y 2))

end Cert.KernelIdeal.Run

end
-- ==== Proof.RefArrays.lean ====
module

public import proofs.«01_k».proof.Proof.Gen.ReferenceIdeal.Frame
public import Idealize.ShloMosaic.Lib.Pipeline.Value
public import Idealize.ShloMosaic.Lib.Claim

/-
  What the reference leaves in its three results, each whole array at once.
-/
@[expose] public section

set_option maxRecDepth 16384

noncomputable section

namespace Cert.ReferenceIdeal.Run

open Cert.ReferenceIdeal Cert.ReferenceIdeal.Gen Idealize.ShloMosaic Idealize.ShloMosaic.TcCoe Idealize.SL.Sem
open Idealize.ShloMosaic.Tactic
open Idealize.ShloMosaic.Pipeline (Dat)

variable {F : FTy → Type} [FloatOps F]
variable (m : (ℓ : Loc nD τ sig) → Buf (Elt F) ℓ) (ρ : Dev nD → PrngReg)

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v2_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v2_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v2_2) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 3 cfg0.N
      ∧ r.2.mem ((c : Thread nD τ).loc main_v2_1) = (dats m 0 c).arrAt 4 cfg0.N
      ∧ r.2.mem ((c : Thread nD τ).loc main_v2_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      post5 m r h c,
      kept_main_arg0 m r h c,
      kept_main_arg1 m r h c,
      kept_main_arg2 m r h c⟩)
    (run_main m ρ)

/-! ## The one grid point, and the blocks it reads -/

/-- The only grid point. -/
abbrev pt0 : Fin cfg0.N := ⟨0, lt_of_lt_of_eq Nat.one_pos (show cfg0.N = 1 from N_0).symm⟩

/-- Input block 0 is the whole array. -/
theorem block0 (c : Dev nD) (t : Fin cfg0.N) : (iblk m c 0 t : Vec F S6x8x32x1920 .fp8e4m3) = V m c main_arg0 := by
  have e : ∀ (t : Fin cfg0.N) (a : Fin 4), win0_0.index t a = 0 := (by decide +kernel : ∀ (t : Fin grid0.N) (a : Fin 4), win0_0.index t a = 0)
  funext y
  have hl : (((cfg0.win 0).blk t).view.emb y) = y := by
    funext a; apply Fin.ext
    match a with
    | ⟨0, _⟩ => show win0_0.index t (0 : Fin 4) * 6 + 1 * (y 0).val = (y 0).val; rw [e t]; omega
    | ⟨1, _⟩ => show win0_0.index t (1 : Fin 4) * 8 + 1 * (y 1).val = (y 1).val; rw [e t]; omega
    | ⟨2, _⟩ => show win0_0.index t (2 : Fin 4) * 32 + 1 * (y 2).val = (y 2).val; rw [e t]; omega
    | ⟨3, _⟩ => show win0_0.index t (3 : Fin 4) * 1920 + 1 * (y 3).val = (y 3).val; rw [e t]; omega
  show V m c main_arg0 (((cfg0.win 0).blk t).view.emb y) = V m c main_arg0 y
  rw [hl]

/-- Input block 1 is the whole array. -/
theorem block1 (c : Dev nD) (t : Fin cfg0.N) : (iblk m c 1 t : Vec F S1920x1 .f32) = V m c main_v0 := by
  have e : ∀ (t : Fin cfg0.N) (a : Fin 2), win0_1.index t a = 0 := (by decide +kernel : ∀ (t : Fin grid0.N) (a : Fin 2), win0_1.index t a = 0)
  funext y
  have hl : (((cfg0.win 1).blk t).view.emb y) = y := by
    funext a; apply Fin.ext
    match a with
    | ⟨0, _⟩ => show win0_1.index t (0 : Fin 2) * 1920 + 1 * (y 0).val = (y 0).val; rw [e t]; omega
    | ⟨1, _⟩ => show win0_1.index t (1 : Fin 2) * 1 + 1 * (y 1).val = (y 1).val; rw [e t]; omega
  show V m c main_v0 (((cfg0.win 1).blk t).view.emb y) = V m c main_v0 y
  rw [hl]

/-- Input block 2 is the whole array. -/
theorem block2 (c : Dev nD) (t : Fin cfg0.N) : (iblk m c 2 t : Vec F S1536x640 .bf16) = V m c main_v1 := by
  have e : ∀ (t : Fin cfg0.N) (a : Fin 2), win0_2.index t a = 0 := (by decide +kernel : ∀ (t : Fin grid0.N) (a : Fin 2), win0_2.index t a = 0)
  funext y
  have hl : (((cfg0.win 2).blk t).view.emb y) = y := by
    funext a; apply Fin.ext
    match a with
    | ⟨0, _⟩ => show win0_2.index t (0 : Fin 2) * 1536 + 1 * (y 0).val = (y 0).val; rw [e t]; omega
    | ⟨1, _⟩ => show win0_2.index t (1 : Fin 2) * 640 + 1 * (y 1).val = (y 1).val; rw [e t]; omega
  show V m c main_v1 (((cfg0.win 2).blk t).view.emb y) = V m c main_v1 y
  rw [hl]

/-! ## Result 1 -/

theorem zero3 : ∀ (t : Fin cfg0.N) (a : Fin 3), win0_3.index t a = 0 :=
  (by decide +kernel : ∀ (t : Fin grid0.N) (a : Fin 3), win0_3.index t a = 0)

/-- A block that is the whole array reads as the array. -/
theorem cut3 (t : Fin cfg0.N) (X : Vec F S9x1920x640 .f32) :
    (cfg0.win 3).cut (grid0.coords t) X = ((cfg0.win 3).blk t).view.read (Elt F) X := by
  have e := zero3
  funext y
  have hl : (((cfg0.win 3).blk t).view.emb y) = (cfg0.win 3).xinj (grid0.coords t) y := by
    funext a; apply Fin.ext
    match a with
    | ⟨0, _⟩ => show win0_3.index t (0 : Fin 3) * 9 + 1 * (y 0).val = (y 0).val; rw [e t]; omega
    | ⟨1, _⟩ => show win0_3.index t (1 : Fin 3) * 1920 + 1 * (y 1).val = (y 1).val; rw [e t]; omega
    | ⟨2, _⟩ => show win0_3.index t (2 : Fin 3) * 640 + 1 * (y 2).val = (y 2).val; rw [e t]; omega
  show X ((cfg0.win 3).xinj (grid0.coords t) y) = X (((cfg0.win 3).blk t).view.emb y)
  rw [hl]

theorem mem_blk3 (t : Fin cfg0.N) (i : S9x1920x640.Idx) :
    i ∈ ((cfg0.win 3).blk t).view.set ↔ ∀ a : Fin 3, win0_3.index t a * S9x1920x640.size a ≤ (i a).val ∧ (i a).val < win0_3.index t a * S9x1920x640.size a + S9x1920x640.size a := by
  show i ∈ ((View.whole main_v2_0).slice (win0_3.rect t)).set ↔ _
  rw [View.set_slice_whole, Rect.mem_set_unit]
  exact Iff.rfl

theorem flushed3 (c : Dev nD) (t : Fin cfg0.N) : (dats m 0 c).flushed 3 t
    = ((cfg0.win 3).blk t).view.read (Elt F) (out0_3 (V m c main_arg0) (V m c main_v0) (V m c main_v1)) := by
  show (cfg0.win 3).cut (grid0.coords t) ((dats m 0 c).after 3 t) = _
  rw [after0_3, block0, block1, block2]
  exact cut3 t _

/-- Result 1 after the run. -/
theorem final3 (c : Dev nD) : (dats m 0 c).arrAt 3 cfg0.N = out0_3 (V m c main_arg0) (V m c main_v0) (V m c main_v1) :=
  (dats m 0 c).arrAt_eq_of_cover 3 _ (fun t _ => flushed3 m c t) (fun i => ⟨pt0, (by decide +kernel : ∀ t : Fin grid0.N, win0_3.flush t = true) pt0, by
    have hi0 : (i 0).val < 9 := (i 0).isLt
    have hi1 : (i 1).val < 1920 := (i 1).isLt
    have hi2 : (i 2).val < 640 := (i 2).isLt
    rw [mem_blk3]
    intro a
    match a with
    | ⟨0, _⟩ => show win0_3.index _ (0 : Fin 3) * 9 ≤ (i 0).val ∧ (i 0).val < win0_3.index _ (0 : Fin 3) * 9 + 9; rw [zero3]; omega
    | ⟨1, _⟩ => show win0_3.index _ (1 : Fin 3) * 1920 ≤ (i 1).val ∧ (i 1).val < win0_3.index _ (1 : Fin 3) * 1920 + 1920; rw [zero3]; omega
    | ⟨2, _⟩ => show win0_3.index _ (2 : Fin 3) * 640 ≤ (i 2).val ∧ (i 2).val < win0_3.index _ (2 : Fin 3) * 640 + 640; rw [zero3]; omega⟩)

/-! ## Result 2 -/

theorem zero4 : ∀ (t : Fin cfg0.N) (a : Fin 2), win0_4.index t a = 0 :=
  (by decide +kernel : ∀ (t : Fin grid0.N) (a : Fin 2), win0_4.index t a = 0)

/-- A block that is the whole array reads as the array. -/
theorem cut4 (t : Fin cfg0.N) (X : Vec F S1536x640 .fp8e5m2) :
    (cfg0.win 4).cut (grid0.coords t) X = ((cfg0.win 4).blk t).view.read (Elt F) X := by
  have e := zero4
  funext y
  have hl : (((cfg0.win 4).blk t).view.emb y) = (cfg0.win 4).xinj (grid0.coords t) y := by
    funext a; apply Fin.ext
    match a with
    | ⟨0, _⟩ => show win0_4.index t (0 : Fin 2) * 1536 + 1 * (y 0).val = (y 0).val; rw [e t]; omega
    | ⟨1, _⟩ => show win0_4.index t (1 : Fin 2) * 640 + 1 * (y 1).val = (y 1).val; rw [e t]; omega
  show X ((cfg0.win 4).xinj (grid0.coords t) y) = X (((cfg0.win 4).blk t).view.emb y)
  rw [hl]

theorem mem_blk4 (t : Fin cfg0.N) (i : S1536x640.Idx) :
    i ∈ ((cfg0.win 4).blk t).view.set ↔ ∀ a : Fin 2, win0_4.index t a * S1536x640.size a ≤ (i a).val ∧ (i a).val < win0_4.index t a * S1536x640.size a + S1536x640.size a := by
  show i ∈ ((View.whole main_v2_1).slice (win0_4.rect t)).set ↔ _
  rw [View.set_slice_whole, Rect.mem_set_unit]
  exact Iff.rfl

theorem flushed4 (c : Dev nD) (t : Fin cfg0.N) : (dats m 0 c).flushed 4 t
    = ((cfg0.win 4).blk t).view.read (Elt F) (out0_4 (V m c main_arg0) (V m c main_v0) (V m c main_v1)) := by
  show (cfg0.win 4).cut (grid0.coords t) ((dats m 0 c).after 4 t) = _
  rw [after0_4, block0, block1, block2]
  exact cut4 t _

/-- Result 2 after the run. -/
theorem final4 (c : Dev nD) : (dats m 0 c).arrAt 4 cfg0.N = out0_4 (V m c main_arg0) (V m c main_v0) (V m c main_v1) :=
  (dats m 0 c).arrAt_eq_of_cover 4 _ (fun t _ => flushed4 m c t) (fun i => ⟨pt0, (by decide +kernel : ∀ t : Fin grid0.N, win0_4.flush t = true) pt0, by
    have hi0 : (i 0).val < 1536 := (i 0).isLt
    have hi1 : (i 1).val < 640 := (i 1).isLt
    rw [mem_blk4]
    intro a
    match a with
    | ⟨0, _⟩ => show win0_4.index _ (0 : Fin 2) * 1536 ≤ (i 0).val ∧ (i 0).val < win0_4.index _ (0 : Fin 2) * 1536 + 1536; rw [zero4]; omega
    | ⟨1, _⟩ => show win0_4.index _ (1 : Fin 2) * 640 ≤ (i 1).val ∧ (i 1).val < win0_4.index _ (1 : Fin 2) * 640 + 640; rw [zero4]; omega⟩)

/-! ## Result 3 -/

theorem zero5 : ∀ (t : Fin cfg0.N) (a : Fin 2), win0_5.index t a = 0 :=
  (by decide +kernel : ∀ (t : Fin grid0.N) (a : Fin 2), win0_5.index t a = 0)

/-- A block that is the whole array reads as the array. -/
theorem cut5 (t : Fin cfg0.N) (X : Vec F S1x640 .f32) :
    (cfg0.win 5).cut (grid0.coords t) X = ((cfg0.win 5).blk t).view.read (Elt F) X := by
  have e := zero5
  funext y
  have hl : (((cfg0.win 5).blk t).view.emb y) = (cfg0.win 5).xinj (grid0.coords t) y := by
    funext a; apply Fin.ext
    match a with
    | ⟨0, _⟩ => show win0_5.index t (0 : Fin 2) * 1 + 1 * (y 0).val = (y 0).val; rw [e t]; omega
    | ⟨1, _⟩ => show win0_5.index t (1 : Fin 2) * 640 + 1 * (y 1).val = (y 1).val; rw [e t]; omega
  show X ((cfg0.win 5).xinj (grid0.coords t) y) = X (((cfg0.win 5).blk t).view.emb y)
  rw [hl]

theorem mem_blk5 (t : Fin cfg0.N) (i : S1x640.Idx) :
    i ∈ ((cfg0.win 5).blk t).view.set ↔ ∀ a : Fin 2, win0_5.index t a * S1x640.size a ≤ (i a).val ∧ (i a).val < win0_5.index t a * S1x640.size a + S1x640.size a := by
  show i ∈ ((View.whole main_v2_2).slice (win0_5.rect t)).set ↔ _
  rw [View.set_slice_whole, Rect.mem_set_unit]
  exact Iff.rfl

theorem flushed5 (c : Dev nD) (t : Fin cfg0.N) : (dats m 0 c).flushed 5 t
    = ((cfg0.win 5).blk t).view.read (Elt F) (out0_5 (V m c main_arg0) (V m c main_v0) (V m c main_v1)) := by
  show (cfg0.win 5).cut (grid0.coords t) ((dats m 0 c).after 5 t) = _
  rw [after0_5, block0, block1, block2]
  exact cut5 t _

/-- Result 3 after the run. -/
theorem final5 (c : Dev nD) : (dats m 0 c).arrAt 5 cfg0.N = out0_5 (V m c main_arg0) (V m c main_v0) (V m c main_v1) :=
  (dats m 0 c).arrAt_eq_of_cover 5 _ (fun t _ => flushed5 m c t) (fun i => ⟨pt0, (by decide +kernel : ∀ t : Fin grid0.N, win0_5.flush t = true) pt0, by
    have hi0 : (i 0).val < 1 := (i 0).isLt
    have hi1 : (i 1).val < 640 := (i 1).isLt
    rw [mem_blk5]
    intro a
    match a with
    | ⟨0, _⟩ => show win0_5.index _ (0 : Fin 2) * 1 ≤ (i 0).val ∧ (i 0).val < win0_5.index _ (0 : Fin 2) * 1 + 1; rw [zero5]; omega
    | ⟨1, _⟩ => show win0_5.index _ (1 : Fin 2) * 640 ≤ (i 1).val ∧ (i 1).val < win0_5.index _ (1 : Fin 2) * 640 + 640; rw [zero5]; omega⟩)

/-! ## What the windows read, from the arguments -/

theorem xs_arr_eq (c : Dev nD) : (V m c main_v0 : Vec F S1920x1 .f32) = shapeCast S1920x1 (m ((c : Thread nD τ).loc main_arg1)) shapeCasts_S1920_S1920x1 := by
  unfold V; dsimp only [hostOps0, List.flatten_cons, List.flatten_nil, List.append_nil, List.cons_append, List.nil_append]
  entry_read
  rfl

theorem dyArr_eq (c : Dev nD) : (V m c main_v1 : Vec F S1536x640 .bf16) = shapeCast S1536x640 (m ((c : Thread nD τ).loc main_arg2)) shapeCasts_S6x8x32x640_S1536x640 := by
  unfold V; dsimp only [hostOps0, List.flatten_cons, List.flatten_nil, List.append_nil, List.cons_append, List.nil_append]
  entry_read
  rfl

/-- The codes the reference stores. -/
theorem codes_out (x0 : Vec F S6x8x32x1920 .fp8e4m3) (x1 : Vec F S1920x1 .f32) (x2 : Vec F S1536x640 .bf16) :
    out0_4 x0 x1 x2 = k0_pay4 x2 := by
  unfold out0_4
  rw [View.canon_unit_zero (by decide), View.ld_unit_zero (by decide)]

/-- The scale the reference stores. -/
theorem scale_out (x0 : Vec F S6x8x32x1920 .fp8e4m3) (x1 : Vec F S1920x1 .f32) (x2 : Vec F S1536x640 .bf16) :
    out0_5 x0 x1 x2 = k0_pay3 x2 := by
  unfold out0_5
  rw [View.canon_unit_zero (by decide), View.ld_unit_zero (by decide)]

/-- Every run ends with the three results at these values and the arguments unchanged. -/
theorem run_values : θ_run defs (onTc (τ := τ) (main (F := F))) ⟨m, fun _ => 0, ρ⟩ (fun r => ∀ c : Dev nD,
      r.2.mem ((c.tc : Thread nD τ).loc main_v2_0) = out0_3 (m ((c.tc : Thread nD τ).loc main_arg0)) (V m c main_v0) (V m c main_v1)
      ∧ r.2.mem ((c.tc : Thread nD τ).loc main_v2_1) = k0_pay4 (V m c main_v1 : Vec F S1536x640 .bf16)
      ∧ r.2.mem ((c.tc : Thread nD τ).loc main_v2_2) = k0_pay3 (V m c main_v1 : Vec F S1536x640 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1.trans (final3 m c)).trans (by rw [V_main_arg0]),
      ((h c).2.1.trans (final4 m c)).trans (codes_out _ _ _),
      ((h c).2.2.1.trans (final5 m c)).trans (scale_out _ _ _), (h c).2.2.2⟩)
    (run_blocks m ρ)

end Cert.ReferenceIdeal.Run

end
-- ==== Proof.RefDw.lean ====
module

public import proofs.«01_k».proof.Proof.RefArrays
public import Idealize.ShloMosaic.Lib.Pointwise
public import Idealize.ShloMosaic.Lib.Pipeline.ValueKit.Tiles

/-
  The reference's weight gradient in closed form: at filter tap `n` the sum over all pixels of the padded input, moved
  by the tap, times the codes; and the product of the two scales.
-/
@[expose] public section

set_option maxRecDepth 16384

noncomputable section

namespace Cert.ReferenceIdeal.Run

open Cert.ReferenceIdeal Cert.ReferenceIdeal.Gen Idealize.ShloMosaic Idealize.ShloMosaic.TcCoe
open Idealize.ShloMosaic.Tactic

local notation "Ideal" => Idealize.ShloMosaic.Ideal

section
variable {F : FTy → Type} [FloatOps F]

/-- The input with a border of zeros around every image. -/
noncomputable def padded (x : Vec F S6x8x32x1920 .fp8e4m3) : FVec F S6x10x34x1920 .fp8e4m3 :=
  k0_pay7 (Scalar.ofBits .fp8e4m3 0x00#8) (k0_pay5 x) (k0_pay6 (F := F))

/-- The slab of tap `n`: the window of the padded input at row `n / 3` and column `n % 3` against the codes. -/
noncomputable def refSlab (n : ℕ) (hn : n < 9) (codes : FVec F S1536x640 .fp8e5m2) (pad : FVec F S6x10x34x1920 .fp8e4m3)
    (comb : FVec F S1920x640 .f32) : FVec F S1x1920x640 .f32 :=
  shapeCast S1x1920x640 (mulf (matmul dot_S1536x1920_S1536x640_S1920x640_0_0_1_1_n_n none
    (shapeCast S1536x1920 (extractStridedSlice S6x8x32x1920 ![0, n / 3, n % 3, 0] pad
      ⟨rfl, fun a => by fin_cases a <;> simp [S6x8x32x1920, S6x10x34x1920] <;> omega⟩) shapeCasts_S6x8x32x1920_S1536x1920)
    codes (constant S1920x640 .f32 0x00000000#32)) comb) shapeCasts_S1920x640_S1x1920x640

/-- The store of a slab. -/
noncomputable def refPiece (n : ℕ) (hn : n < 9) (codes : FVec F S1536x640 .fp8e5m2) (pad : FVec F S6x10x34x1920 .fp8e4m3)
    (comb : FVec F S1920x640 .f32) : View.Piece (Elt F) S9x1920x640 .f32 :=
  ⟨Rect.unit (s := S9x1920x640) ![n, 0, 0] S1x1920x640.size
      (fun a => by fin_cases a <;> simp [S1x1920x640, S9x1920x640] <;> omega), refSlab n hn codes pad comb⟩

/-- The nine stores. -/
noncomputable def refPieces (codes : FVec F S1536x640 .fp8e5m2) (pad : FVec F S6x10x34x1920 .fp8e4m3) (comb : FVec F S1920x640 .f32) :
    List (View.Piece (Elt F) S9x1920x640 .f32) :=
  [refPiece 8 (by decide) codes pad comb, refPiece 7 (by decide) codes pad comb, refPiece 6 (by decide) codes pad comb,
    refPiece 5 (by decide) codes pad comb, refPiece 4 (by decide) codes pad comb, refPiece 3 (by decide) codes pad comb,
    refPiece 2 (by decide) codes pad comb, refPiece 1 (by decide) codes pad comb, refPiece 0 (by decide) codes pad comb]

theorem out_eq (x0 : Vec F S6x8x32x1920 .fp8e4m3) (x1 : Vec F S1920x1 .f32) (x2 : Vec F S1536x640 .bf16) :
    out0_3 x0 x1 x2 = View.canon (refPieces (k0_pay4 x2) (padded x0) (k0_pay8 (k0_pay3 x2) x1)) := by
  unfold out0_3 k0_pay24 k0_pay23 k0_pay22 k0_pay21 k0_pay20 k0_pay19
  rw [View.ld_unit_zero (S := S1536x640) (by decide), View.ld_unit_zero (S := S6x8x32x1920) (by decide), View.ld_unit_zero (S := S1920x1) (by decide)]
  rfl

end

/-- The product of the two scales at an index. -/
theorem comb_at (sc : FVec Ideal S1x640 .f32) (xs : Vec Ideal S1920x1 .f32) (j : S1920x640.Idx) :
    k0_pay8 sc xs j = xs (ix2 (n0 := 1920) (n1 := 1) (j 0) 0) * sc (ix2 (n0 := 1) (n1 := 640) 0 (j 1)) := by
  pointwise [k0_pay8]

/-- The padded input at a place that holds the pixel `z`, -/
theorem padded_pos (x : Vec Ideal S6x8x32x1920 .fp8e4m3) (j : S6x10x34x1920.Idx) (z : S6x8x32x1920.Idx)
    (z0 : (z 0).val = (j 0).val) (z1 : (z 1).val + 1 = (j 1).val) (z2 : (z 2).val + 1 = (j 2).val) (z3 : (z 3).val = (j 3).val) :
    padded x j = x z := by
  have h1 : (z 1).val < 8 := (z 1).isLt
  have h2 : (z 2).val < 32 := (z 2).isLt
  unfold padded
  pointwise [k0_pay7, k0_pay5, k0_pay6]
  refine (dif_pos (show (j 2).val < 33 by omega)).trans ((dif_neg (show ¬ (j 2).val < 1 by omega)).trans
    ((dif_pos (show (j 1).val < 9 by omega)).trans ((dif_neg (show ¬ (j 1).val < 1 by omega)).trans ?_)))
  refine congrArg x (funext fun a => ?_)
  match a with
  | ⟨0, _⟩ => exact Fin.ext z0.symm
  | ⟨1, _⟩ => exact Fin.ext (by show (j 1).val - 1 = (z 1).val; omega)
  | ⟨2, _⟩ => exact Fin.ext (by show (j 2).val - 1 = (z 2).val; omega)
  | ⟨3, _⟩ => exact Fin.ext z3.symm

/-- and on the border. -/
theorem padded_neg (x : Vec Ideal S6x8x32x1920 .fp8e4m3) (j : S6x10x34x1920.Idx)
    (h : (j 1).val = 0 ∨ (j 1).val = 9 ∨ (j 2).val = 0 ∨ (j 2).val = 33) : padded x j = 0 := by
  have z0 : Ideal.ofBits .fp8e4m3 0x00#8 = 0 := Ideal.ofBits_zero .fp8e4m3
  unfold padded
  pointwise [k0_pay7, k0_pay5, k0_pay6]
  by_cases h2 : (j 2).val < 33
  · refine (dif_pos h2).trans ?_
    by_cases h3 : (j 2).val < 1
    · exact (dif_pos h3).trans z0
    · refine (dif_neg h3).trans ?_
      by_cases h4 : (j 1).val < 9
      · exact (dif_pos h4).trans ((dif_pos (show (j 1).val < 1 by omega)).trans z0)
      · exact (dif_neg h4).trans z0
  · exact (dif_neg h2).trans z0

/-- A slab at an index. -/
theorem refSlab_at (n : ℕ) (hn : n < 9) (codes : FVec Ideal S1536x640 .fp8e5m2) (pad : FVec Ideal S6x10x34x1920 .fp8e4m3)
    (comb : FVec Ideal S1920x640 .f32) (j : S1x1920x640.Idx) :
    refSlab n hn codes pad comb j = (∑ t : Fin 1536,
        pad (ix4 (n0 := 6) (n1 := 10) (n2 := 34) (n3 := 1920) ⟨t.val / 256, by omega⟩ ⟨n / 3 + t.val / 32 % 8, by omega⟩
          ⟨n % 3 + t.val % 32, by omega⟩ (j 1)) * codes (ix2 (n0 := 1536) (n1 := 640) t (j 2)))
      * comb (ix2 (n0 := 1920) (n1 := 640) (j 1) (j 2)) := by
  unfold refSlab
  pointwise []

/-- The reference's weight gradient at an index. -/
theorem dw_at (codes : FVec Ideal S1536x640 .fp8e5m2) (pad : FVec Ideal S6x10x34x1920 .fp8e4m3)
    (comb : FVec Ideal S1920x640 .f32) (y : S9x1920x640.Idx) :
    View.canon (refPieces codes pad comb) y = (∑ t : Fin 1536,
        pad (ix4 (n0 := 6) (n1 := 10) (n2 := 34) (n3 := 1920) ⟨t.val / 256, by omega⟩
          ⟨(y 0).val / 3 + t.val / 32 % 8, by have h : (y 0).val < 9 := (y 0).isLt; omega⟩
          ⟨(y 0).val % 3 + t.val % 32, by omega⟩ (y 1)) * codes (ix2 (n0 := 1536) (n1 := 640) t (y 2)))
      * comb (ix2 (n0 := 1920) (n1 := 640) (y 1) (y 2)) := by
  have key : ∀ (n : ℕ) (hn : n < 9), ∀ x, (refPiece n hn codes pad comb).1.emb x = y → (refPiece n hn codes pad comb).2 x
      = (∑ t : Fin 1536, pad (ix4 (n0 := 6) (n1 := 10) (n2 := 34) (n3 := 1920) ⟨t.val / 256, by omega⟩
          ⟨(y 0).val / 3 + t.val / 32 % 8, by have h : (y 0).val < 9 := (y 0).isLt; omega⟩
          ⟨(y 0).val % 3 + t.val % 32, by omega⟩ (y 1)) * codes (ix2 (n0 := 1536) (n1 := 640) t (y 2)))
        * comb (ix2 (n0 := 1920) (n1 := 640) (y 1) (y 2)) := by
    intro n hn z hz
    have z0 : (z 0).val < 1 := (z 0).isLt
    have e0 : n + 1 * (z 0).val = (y 0).val := congrArg Fin.val (congrFun hz 0)
    have e1 : 0 + 1 * (z 1).val = (y 1).val := congrArg Fin.val (congrFun hz 1)
    have e2 : 0 + 1 * (z 2).val = (y 2).val := congrArg Fin.val (congrFun hz 2)
    obtain rfl : n = (y 0).val := by omega
    have f1 : (z 1 : Fin 1920) = y 1 := Fin.ext (by omega)
    have f2 : (z 2 : Fin 640) = y 2 := Fin.ext (by omega)
    refine (refSlab_at _ hn codes pad comb z).trans ?_
    rw [show ((z 1 : Fin 1920)) = y 1 from f1, show ((z 2 : Fin 640)) = y 2 from f2]
  refine View.canon_eq_of_allAt _ _ _ (cover0_3 _ _ _ _ _ _ _ _ _ y) ?_
  intro p hp x hx
  simp only [refPieces, List.mem_cons, List.not_mem_nil, or_false] at hp
  rcases hp with rfl | rfl | rfl | rfl | rfl | rfl | rfl | rfl | rfl <;> exact key _ _ x hx

end Cert.ReferenceIdeal.Run

end
-- ==== Proof.Match.lean ====
module

public import Mathlib.Data.EReal.Operations
public import Mathlib.Algebra.BigOperators.Fin
public import Mathlib.Algebra.BigOperators.Pi

/-
  Two sums whose non-zero terms are paired off are equal.
-/
@[expose] public section

namespace Cert.Match

/-- A term that is `G q t` for the one partner `t` of `q`, and zero if `q` has none, is the sum over all partners. -/
theorem term_eq {κ : Type} [Fintype κ] (r : κ → Prop) [DecidablePred r] (G : κ → EReal) (k : EReal)
    (uniq : ∀ t t', r t → r t' → t = t') (h1 : ∀ t, r t → k = G t) (h0 : (∀ t, ¬ r t) → k = 0) :
    k = ∑ t, if r t then G t else 0 := by
  by_cases h : ∃ t, r t
  · obtain ⟨t, ht⟩ := h
    rw [Finset.sum_eq_single t (fun t' _ hne => if_neg fun h' => hne (uniq t' t h' ht)) (fun h' => absurd (Finset.mem_univ t) h'),
      if_pos ht, h1 t ht]
  · have h' : ∀ t, ¬ r t := fun t ht => h ⟨t, ht⟩
    rw [h0 h', Finset.sum_eq_zero fun t _ => if_neg (h' t)]

/-- Two families with each term of the one paired with at most one term of the other, partners equal and terms without
    a partner zero, have the same sum. -/
theorem sum_eq {ι κ : Type} [Fintype ι] [Fintype κ] (r : ι → κ → Prop) [∀ q t, Decidable (r q t)] (G : ι → κ → EReal)
    (K : ι → EReal) (L : κ → EReal)
    (uniq1 : ∀ q t t', r q t → r q t' → t = t') (uniq2 : ∀ t q q', r q t → r q' t → q = q')
    (hK : ∀ q t, r q t → K q = G q t) (hK0 : ∀ q, (∀ t, ¬ r q t) → K q = 0)
    (hL : ∀ q t, r q t → L t = G q t) (hL0 : ∀ t, (∀ q, ¬ r q t) → L t = 0) : ∑ q, K q = ∑ t, L t := by
  rw [Finset.sum_congr rfl fun q _ => term_eq (r q) (G q) (K q) (uniq1 q) (hK q) (hK0 q),
    Finset.sum_congr rfl fun t _ => term_eq (fun q => r q t) (fun q => G q t) (L t) (uniq2 t) (fun q => hL q t) (hL0 t)]
  exact Finset.sum_comm

theorem mul_of_zero (a b : EReal) (h : b = 0) : a * b = 0 := by rw [h, mul_zero]

theorem zero_mul_of (a b : EReal) (h : a = 0) : a * b = 0 := by rw [h, zero_mul]

/-- Six runs of 256 terms are 1536 terms. -/
theorem sum_runs (f : Fin 1536 → EReal) :
    (∑ b : Fin 6, ∑ p : Fin 256, f ⟨b.val * 256 + p.val, by omega⟩) = ∑ q : Fin 1536, f q := by
  rw [← Fintype.sum_prod_type']
  refine Fintype.sum_equiv (finProdFinEquiv (m := 6) (n := 256)) _ _ fun x => ?_
  congr 1
  exact Fin.ext (by show x.1.val * 256 + x.2.val = x.2.val + 256 * x.1.val; omega)

end Cert.Match

end
-- ==== Proof.Dw.lean ====
module

public import proofs.«01_k».proof.Proof.Arrays
public import proofs.«01_k».proof.Proof.Scratch
public import proofs.«01_k».proof.Proof.Slab
public import proofs.«01_k».proof.Proof.RefDw
public import proofs.«01_k».proof.Proof.Match

/-
  The kernel's weight gradient is the reference's: the products the kernel sums and those the reference sums are the same, but for products with zero.
-/
@[expose] public section

set_option maxRecDepth 16384

noncomputable section

namespace Cert.KernelIdeal.Run

open Cert.KernelIdeal.Gen
open Idealize.ShloMosaic Idealize.ShloMosaic.TcCoe Idealize.ShloMosaic.Tactic

/-! ## The kernel's weight gradient over the arguments -/

section
variable (m : (ℓ : Loc nD τ sig) → Buf (Elt Ideal) ℓ) (c : Dev nD)

/-- The input codes, one row for each pixel. -/
def xRows : FVec Ideal S1536x1920 .fp8e4m3 := V m c main_v0

/-- The input scales, a column. -/
def xScales : FVec Ideal S1920x1 .f32 := V m c main_v2

/-- The kernel's weight gradient at an index, over the arrays its windows read. -/
theorem kernel_dw (y : S9x1920x640.Idx) :
    dwArr m c y = (∑ q : Fin 1536, xRows m c (ix2 (n0 := 1536) (n1 := 1920) q (y 1))
        * scratchV (codesV (dyArr m c)) (ix3 (n0 := 3) (n1 := 1760) (n2 := 640) ⟨(y 0).val % 3, by omega⟩
            ⟨(q.val / 256 * 9 + 2 - (y 0).val / 3) * 32 + q.val % 256, by omega⟩ (y 2)))
      * (xScales m c (ix2 (n0 := 1920) (n1 := 1) (y 1) 0)
          * scaleV (dyArr m c) (ix2 (n0 := 1) (n1 := 640) 0 (y 2))) := by
  have hy1 : (y 1).val < 1920 := (y 1).isLt
  rw [← dyIn_eq]
  refine (slabBlock_at (iblk m c 0 (pointOf y)) (iblk m c 1 (pointOf y)) (scaleV (dyIn m c)) (scratchV (codesV (dyIn m c))) (within y)).trans ?_
  rw [xs_block m c (pointOf y) (ix2 (n0 := 384) (n1 := 1) (within y 1) 0) (ix2 (n0 := 1920) (n1 := 1) (y 1) 0)
    (by show (y 1).val = (y 1).val / 384 * 384 + (y 1).val % 384; omega)]
  refine congrArg (· * _) ?_
  refine Eq.trans ?_ (Cert.Match.sum_runs _)
  refine Finset.sum_congr rfl fun b _ => Finset.sum_congr rfl fun p _ => ?_
  rw [x_block m c (pointOf y) (ix2 (n0 := 1536) (n1 := 384) ⟨b.val * 256 + p.val, by omega⟩ (within y 1))
    (ix2 (n0 := 1536) (n1 := 1920) ⟨b.val * 256 + p.val, by omega⟩ (y 1)) rfl
    (by show (y 1).val = (y 1).val / 384 * 384 + (y 1).val % 384; omega)]
  refine congrArg (_ * scratchV (codesV (dyIn m c)) ·) (funext fun a => Fin.ext ?_)
  match a with
  | ⟨0, _⟩ => rfl
  | ⟨1, _⟩ =>
    show (b.val * 9 + 2 - (y 0).val / 3) * 32 + p.val = ((b.val * 256 + p.val) / 256 * 9 + 2 - (y 0).val / 3) * 32 + (b.val * 256 + p.val) % 256
    rw [show (b.val * 256 + p.val) / 256 = b.val from by omega, show (b.val * 256 + p.val) % 256 = p.val from by omega]
  | ⟨2, _⟩ => rfl

end

/-! ## The two sums -/

/-- An input pixel `q` and a gradient pixel `t` meet at tap `n` when they lie in the same image and `q` is `t` moved by
    the tap. -/
def Meets (n : ℕ) (q t : Fin 1536) : Prop :=
  q.val / 256 = t.val / 256 ∧ q.val / 32 % 8 + 1 = t.val / 32 % 8 + n / 3 ∧ q.val % 32 + 1 = t.val % 32 + n % 3

instance (n : ℕ) (q t : Fin 1536) : Decidable (Meets n q t) := by unfold Meets; infer_instance

theorem meets_right (n : ℕ) (q t t' : Fin 1536) (h : Meets n q t) (h' : Meets n q t') : t = t' := by
  obtain ⟨h1, h2, h3⟩ := h
  obtain ⟨g1, g2, g3⟩ := h'
  exact Fin.ext (by omega)

theorem meets_left (n : ℕ) (t q q' : Fin 1536) (h : Meets n q t) (h' : Meets n q' t) : q = q' := by
  obtain ⟨h1, h2, h3⟩ := h
  obtain ⟨g1, g2, g3⟩ := h'
  exact Fin.ext (by omega)

/-- Scratch row `i + 1` of image `b` comes after `b + 1` rows of zeros. -/
theorem row_image (b i : ℕ) (hi : i < 8) : b * 9 + (i + 1) - (b * 9 + (i + 1)) / 9 - 1 = b * 8 + i := by
  rw [show (b * 9 + (i + 1)) / 9 = b from by omega]
  omega

/-- A row moved by `kh` that is not a row of zeros lies in the image. -/
theorem row_inside (b i kh : ℕ) (hi : i < 8) (hk : kh < 3) (h : (b * 9 + 2 - kh + i) % 9 ≠ 0) :
    kh ≤ i + 1 ∧ i + 1 < 8 + kh := by
  rw [show b * 9 + 2 - kh + i = 9 * b + (2 - kh + i) from by omega, Nat.mul_add_mod] at h
  interval_cases kh <;> omega

section
variable (n : ℕ) (hn : n < 9) (codes : FVec Ideal S1536x640 .fp8e5m2) (d : Fin 640)
include hn

/-- The scratch row that meets input pixel `q` holds its partner's code, -/
theorem scratch_meets (q t : Fin 1536) (h : Meets n q t) :
    scratchV codes (ix3 (n0 := 3) (n1 := 1760) (n2 := 640) ⟨n % 3, by omega⟩
      ⟨(q.val / 256 * 9 + 2 - n / 3) * 32 + q.val % 256, by omega⟩ d) = codes (ix2 (n0 := 1536) (n1 := 640) t d) := by
  obtain ⟨h1, h2, h3⟩ := h
  have ht : t.val < 1536 := t.isLt
  have hq : q.val < 1536 := q.isLt
  have e0 : ((q.val / 256 * 9 + 2 - n / 3) * 32 + q.val % 256) / 32 = q.val / 256 * 9 + 2 - n / 3 + q.val / 32 % 8 := by
    generalize q.val / 256 * 9 + 2 - n / 3 = R
    omega
  have e1 : ((q.val / 256 * 9 + 2 - n / 3) * 32 + q.val % 256) / 32 = t.val / 256 * 9 + (t.val / 32 % 8 + 1) := by
    rw [e0, h1]
    omega
  have e2 : ((q.val / 256 * 9 + 2 - n / 3) * 32 + q.val % 256) % 32 = q.val % 32 := by omega
  refine scratch_pos codes _ _ ?_ ?_ ?_ rfl
  · show ((q.val / 256 * 9 + 2 - n / 3) * 32 + q.val % 256) / 32 % 9 ≠ 0
    rw [e1]
    omega
  · show t.val / 32 = ((q.val / 256 * 9 + 2 - n / 3) * 32 + q.val % 256) / 32 - ((q.val / 256 * 9 + 2 - n / 3) * 32 + q.val % 256) / 32 / 9 - 1
    rw [e1, row_image _ _ (Nat.mod_lt _ (by decide))]
    omega
  · show t.val % 32 + n % 3 = ((q.val / 256 * 9 + 2 - n / 3) * 32 + q.val % 256) % 32 + 1
    rw [e2]
    omega

/-- and zero if it has no partner. -/
theorem scratch_alone (q : Fin 1536) (h : ∀ t, ¬ Meets n q t) :
    scratchV codes (ix3 (n0 := 3) (n1 := 1760) (n2 := 640) ⟨n % 3, by omega⟩
      ⟨(q.val / 256 * 9 + 2 - n / 3) * 32 + q.val % 256, by omega⟩ d) = 0 := by
  have hq : q.val < 1536 := q.isLt
  have e0 : ((q.val / 256 * 9 + 2 - n / 3) * 32 + q.val % 256) / 32 = q.val / 256 * 9 + 2 - n / 3 + q.val / 32 % 8 := by
    generalize q.val / 256 * 9 + 2 - n / 3 = R
    omega
  have e2 : ((q.val / 256 * 9 + 2 - n / 3) * 32 + q.val % 256) % 32 = q.val % 32 := by omega
  apply scratch_neg codes
  show ((q.val / 256 * 9 + 2 - n / 3) * 32 + q.val % 256) / 32 % 9 = 0
    ∨ ¬ (n % 3 ≤ ((q.val / 256 * 9 + 2 - n / 3) * 32 + q.val % 256) % 32 + 1
      ∧ ((q.val / 256 * 9 + 2 - n / 3) * 32 + q.val % 256) % 32 + 1 < 32 + n % 3)
  rw [e0, e2]
  by_contra hc
  have ha : n / 3 ≤ q.val / 32 % 8 + 1 ∧ q.val / 32 % 8 + 1 < 8 + n / 3 :=
    row_inside (q.val / 256) _ _ (Nat.mod_lt _ (by decide)) (by omega) fun h0 => hc (Or.inl h0)
  have hb : n % 3 ≤ q.val % 32 + 1 ∧ q.val % 32 + 1 < 32 + n % 3 := by
    by_contra h1
    exact hc (Or.inr h1)
  refine h ⟨q.val / 256 * 256 + (q.val / 32 % 8 + 1 - n / 3) * 32 + (q.val % 32 + 1 - n % 3), by omega⟩ ⟨?_, ?_, ?_⟩
  · show q.val / 256 = (q.val / 256 * 256 + (q.val / 32 % 8 + 1 - n / 3) * 32 + (q.val % 32 + 1 - n % 3)) / 256
    omega
  · show q.val / 32 % 8 + 1 = (q.val / 256 * 256 + (q.val / 32 % 8 + 1 - n / 3) * 32 + (q.val % 32 + 1 - n % 3)) / 32 % 8 + n / 3
    omega
  · show q.val % 32 + 1 = (q.val / 256 * 256 + (q.val / 32 % 8 + 1 - n / 3) * 32 + (q.val % 32 + 1 - n % 3)) % 32 + n % 3
    omega

variable (x : Vec Ideal S6x8x32x1920 .fp8e4m3) (k : Fin 1920)

/-- The padded input that meets gradient pixel `t` is its partner, -/
theorem padded_meets (q t : Fin 1536) (h : Meets n q t) :
    Cert.ReferenceIdeal.Run.padded (F := Ideal) x (ix4 (n0 := 6) (n1 := 10) (n2 := 34) (n3 := 1920) ⟨t.val / 256, by omega⟩
        ⟨n / 3 + t.val / 32 % 8, by omega⟩ ⟨n % 3 + t.val % 32, by omega⟩ k)
      = x (ix4 (n0 := 6) (n1 := 8) (n2 := 32) (n3 := 1920) ⟨q.val / 256, by omega⟩ ⟨q.val / 32 % 8, by omega⟩ ⟨q.val % 32, by omega⟩ k) := by
  obtain ⟨h1, h2, h3⟩ := h
  refine Cert.ReferenceIdeal.Run.padded_pos x _ _ h1 ?_ ?_ rfl
  · show q.val / 32 % 8 + 1 = n / 3 + t.val / 32 % 8
    omega
  · show q.val % 32 + 1 = n % 3 + t.val % 32
    omega

/-- and zero if it has no partner. -/
theorem padded_alone (t : Fin 1536) (h : ∀ q, ¬ Meets n q t) :
    Cert.ReferenceIdeal.Run.padded (F := Ideal) x (ix4 (n0 := 6) (n1 := 10) (n2 := 34) (n3 := 1920) ⟨t.val / 256, by omega⟩
        ⟨n / 3 + t.val / 32 % 8, by omega⟩ ⟨n % 3 + t.val % 32, by omega⟩ k) = 0 := by
  have ht : t.val < 1536 := t.isLt
  apply Cert.ReferenceIdeal.Run.padded_neg x
  show n / 3 + t.val / 32 % 8 = 0 ∨ n / 3 + t.val / 32 % 8 = 9 ∨ n % 3 + t.val % 32 = 0 ∨ n % 3 + t.val % 32 = 33
  by_contra hc
  refine h ⟨t.val / 256 * 256 + (n / 3 + t.val / 32 % 8 - 1) * 32 + (n % 3 + t.val % 32 - 1), by omega⟩ ⟨?_, ?_, ?_⟩
  · show (t.val / 256 * 256 + (n / 3 + t.val / 32 % 8 - 1) * 32 + (n % 3 + t.val % 32 - 1)) / 256 = t.val / 256
    omega
  · show (t.val / 256 * 256 + (n / 3 + t.val / 32 % 8 - 1) * 32 + (n % 3 + t.val % 32 - 1)) / 32 % 8 + 1 = t.val / 32 % 8 + n / 3
    omega
  · show (t.val / 256 * 256 + (n / 3 + t.val / 32 % 8 - 1) * 32 + (n % 3 + t.val % 32 - 1)) % 32 + 1 = t.val % 32 + n % 3
    omega

/-- The kernel's sum over input pixels is the reference's sum over gradient pixels. -/
theorem sums_agree :
    (∑ q : Fin 1536, x (ix4 (n0 := 6) (n1 := 8) (n2 := 32) (n3 := 1920) ⟨q.val / 256, by omega⟩ ⟨q.val / 32 % 8, by omega⟩ ⟨q.val % 32, by omega⟩ k)
        * scratchV codes (ix3 (n0 := 3) (n1 := 1760) (n2 := 640) ⟨n % 3, by omega⟩
            ⟨(q.val / 256 * 9 + 2 - n / 3) * 32 + q.val % 256, by omega⟩ d))
      = ∑ t : Fin 1536, Cert.ReferenceIdeal.Run.padded (F := Ideal) x (ix4 (n0 := 6) (n1 := 10) (n2 := 34) (n3 := 1920) ⟨t.val / 256, by omega⟩
          ⟨n / 3 + t.val / 32 % 8, by omega⟩ ⟨n % 3 + t.val % 32, by omega⟩ k) * codes (ix2 (n0 := 1536) (n1 := 640) t d) := by
  refine Cert.Match.sum_eq (Meets n)
    (fun q t => x (ix4 (n0 := 6) (n1 := 8) (n2 := 32) (n3 := 1920) ⟨q.val / 256, by omega⟩ ⟨q.val / 32 % 8, by omega⟩ ⟨q.val % 32, by omega⟩ k)
      * codes (ix2 (n0 := 1536) (n1 := 640) t d)) _ _ (meets_right n) (meets_left n) ?_ ?_ ?_ ?_
  · intro q t h
    exact congrArg (_ * ·) (scratch_meets n hn codes d q t h)
  · intro q h
    exact Cert.Match.mul_of_zero _ _ (scratch_alone n hn codes d q h)
  · intro q t h
    exact congrArg (· * _) (padded_meets n hn x k q t h)
  · intro t h
    exact Cert.Match.zero_mul_of _ _ (padded_alone n hn x k t h)
end

end Cert.KernelIdeal.Run

end
-- ==== Proof.Exponent.lean ====
module

public import proofs.«01_k».proof.Proof.Pieces
public import Idealize.ShloMosaic.Lib.Pointwise

/-
  The power-of-two exponent of a channel: counted by comparisons, and by a logarithm.
-/
@[expose] public section

set_option maxRecDepth 16384

noncomputable section

namespace Cert.KernelIdeal.Run

open Cert.KernelIdeal.Gen
open Idealize.ShloMosaic Idealize.ShloMosaic.TcCoe Idealize.ShloMosaic.Tactic
open Idealize.ShloMosaic.ValueIdx

/-! ## The exponent, found by comparing with the powers of two -/

/-- The number of powers of two, from the smallest normal one up, that are not above `s`, as a word. -/
noncomputable def fieldOf (s : EReal) : BitVec 32 :=
  Finset.fold IntOp.addi (0#32) (fun x : Fin 255 =>
    if s < Ideal.ofBits .f32 (IntOp.shli ArithUnit.vector (IntOp.addi (BitVec.ofNat 32 x.val) 1#32) 23#32) then 0#32 else 1#32)
    Finset.univ

/-- The exponent of `s`, as a word: `0` where no power is at most `s`. -/
noncomputable def expWord (s : EReal) : BitVec 32 :=
  Scalar.select (IntOp.cmpi .slt (fieldOf s) 1#32) 0#32 (IntOp.subi (fieldOf s) 126#32)

/-- The three fields of the word of a power of two. -/
theorem power_fields : ∀ x : Fin 254,
    ((IntOp.shli ArithUnit.vector (IntOp.addi (BitVec.ofNat 32 x.val) 1#32) 23#32).extractLsb' 31 1 == 1#1) = false
    ∧ ((IntOp.shli ArithUnit.vector (IntOp.addi (BitVec.ofNat 32 x.val) 1#32) 23#32).extractLsb' 23 8).toNat = x.val + 1
    ∧ ((IntOp.shli ArithUnit.vector (IntOp.addi (BitVec.ofNat 32 x.val) 1#32) 23#32).extractLsb' 0 23).toNat = 0 := by
  decide +kernel

/-- The value of a word with a clear sign, a normal exponent field `n` and no fraction: `2 ^ (n - 127)`. -/
theorem value_of_fields (b : BitVec 32) (n : ℕ) (h1 : 1 ≤ n) (h2 : n ≤ 254) (hs : (b.extractLsb' 31 1 == 1#1) = false)
    (he : (b.extractLsb' 23 8).toNat = n) (hf : (b.extractLsb' 0 23).toNat = 0) :
    Ideal.ofBits .f32 b = (((2 : ℝ) ^ ((n : ℤ) - 127) : ℝ) : EReal) := by
  show Ideal.ieee 8 23 b = _
  unfold Ideal.ieee
  simp only [show 8 + 23 = 31 from rfl, hs, he, hf]
  rw [if_neg (by omega), if_neg (by omega)]
  congr 1
  have h : (2 : ℝ) ^ ((n : ℤ) - 127) = 2 ^ (23 : ℕ) * (2 : ℝ) ^ ((n : ℤ) - 127 - 23) := by
    rw [← zpow_natCast (2 : ℝ) 23, ← zpow_add₀ (by norm_num)]
    congr 1
    push_cast
    ring
  rw [h]
  norm_num

theorem power_value (x : Fin 255) (hx : x.val < 254) :
    Ideal.ofBits .f32 (IntOp.shli ArithUnit.vector (IntOp.addi (BitVec.ofNat 32 x.val) 1#32) 23#32)
      = (((2 : ℝ) ^ ((x.val : ℤ) - 126) : ℝ) : EReal) := by
  obtain ⟨h1, h2, h3⟩ := power_fields ⟨x.val, hx⟩
  rw [value_of_fields _ (x.val + 1) (by omega) (by omega) h1 h2 h3,
    show (((x.val + 1 : ℕ) : ℤ) - 127) = (x.val : ℤ) - 126 from by omega]

/-- The value of a word with a clear sign, the greatest exponent field and no fraction: the infinity. -/
theorem value_of_top (b : BitVec 32) (hs : (b.extractLsb' 31 1 == 1#1) = false)
    (he : (b.extractLsb' 23 8).toNat = 255) (hf : (b.extractLsb' 0 23).toNat = 0) : Ideal.ofBits .f32 b = ⊤ := by
  show Ideal.ieee 8 23 b = _
  unfold Ideal.ieee
  simp only [show 8 + 23 = 31 from rfl, hs, he, hf]
  norm_num

/-- The last word of the list is the infinity. -/
theorem power_last :
    Ideal.ofBits .f32 (IntOp.shli ArithUnit.vector (IntOp.addi (BitVec.ofNat 32 254) 1#32) 23#32) = ⊤ :=
  value_of_top _ (by decide +kernel) (by decide +kernel) (by decide +kernel)

/-- Counting the places from `n` on as nothing leaves `n`. -/
theorem count_below : ∀ n : Fin 256,
    Finset.fold IntOp.addi (0#32) (fun x : Fin 255 => if n.val ≤ x.val then 0#32 else 1#32) Finset.univ = BitVec.ofNat 32 n.val := by
  decide +kernel

/-- Between `2 ^ j` and `2 ^ (j + 1)` the count is `j + 127`, -/
theorem fieldOf_real (x : ℝ) (j : ℤ) (h1 : (2 : ℝ) ^ j ≤ x) (h2 : x < (2 : ℝ) ^ (j + 1)) (hl : -126 ≤ j) (hu : j ≤ 125) :
    fieldOf (x : EReal) = BitVec.ofNat 32 (j + 127).toNat := by
  have e := count_below ⟨(j + 127).toNat, by omega⟩
  rw [← e]
  unfold fieldOf
  congr 1
  funext k
  refine if_congr ?_ rfl rfl
  show _ ↔ (j + 127).toNat ≤ k.val
  have hk : k.val < 255 := k.isLt
  by_cases hlast : k.val < 254
  · rw [power_value k hlast, EReal.coe_lt_coe_iff]
    constructor
    · intro h
      have := lt_of_le_of_lt h1 h
      rw [zpow_lt_zpow_iff_right₀ (by norm_num)] at this
      omega
    · intro h
      refine lt_of_lt_of_le h2 ?_
      rw [zpow_le_zpow_iff_right₀ (by norm_num)]
      omega
  · have hk' : k.val = 254 := by omega
    rw [hk', power_last]
    exact ⟨fun _ => by omega, fun _ => EReal.coe_lt_top x⟩

/-- so the exponent is `j + 1`. -/
theorem expWord_real (x : ℝ) (j : ℤ) (h1 : (2 : ℝ) ^ j ≤ x) (h2 : x < (2 : ℝ) ^ (j + 1)) (hl : -126 ≤ j) (hu : j ≤ 125) :
    expWord (x : EReal) = BitVec.ofInt 32 (j + 1) := by
  unfold expWord
  rw [fieldOf_real x j h1 h2 hl hu]
  obtain ⟨n, hn⟩ : ∃ n : ℕ, j = (n : ℤ) - 126 := ⟨(j + 126).toNat, by omega⟩
  have e : ∀ n : Fin 252, Scalar.select (IntOp.cmpi .slt (BitVec.ofNat 32 (n.val + 1)) 1#32) 0#32
      (IntOp.subi (BitVec.ofNat 32 (n.val + 1)) 126#32) = BitVec.ofInt 32 ((n.val : ℤ) - 126 + 1) := by decide +kernel
  have := e ⟨n, by omega⟩
  rw [hn]
  rw [show ((n : ℤ) - 126 + 127).toNat = n + 1 from by omega]
  exact this

/-- No power is at most zero, -/
theorem fieldOf_zero : fieldOf 0 = 0#32 := by
  have e := count_below ⟨0, by omega⟩
  show _ = BitVec.ofNat 32 0
  rw [← e]
  unfold fieldOf
  congr 1
  funext k
  refine if_congr ?_ rfl rfl
  have hk : k.val < 255 := k.isLt
  refine ⟨fun _ => Nat.zero_le _, fun _ => ?_⟩
  by_cases hlast : k.val < 254
  · rw [power_value k hlast, ← EReal.coe_zero, EReal.coe_lt_coe_iff]
    positivity
  · have hk' : k.val = 254 := by omega
    rw [hk', power_last]
    exact EReal.coe_lt_top 0

/-- so there the exponent is zero. -/
theorem expWord_zero : expWord 0 = 0#32 := by
  unfold expWord
  rw [fieldOf_zero]
  decide

/-! ## The power of two that an exponent makes -/

/-- The word of the scale, at an exponent in range: the power of two. -/
theorem scale_word (e : ℤ) (hl : -125 ≤ e) (hu : e ≤ 126) :
    Ideal.ofBits .f32 (IntOp.shli ArithUnit.vector (IntOp.addi (BitVec.ofInt 32 e) 127#32) 23#32) = (((2 : ℝ) ^ e : ℝ) : EReal) := by
  obtain ⟨n, hn⟩ : ∃ n : ℕ, e = (n : ℤ) - 125 := ⟨(e + 125).toNat, by omega⟩
  have hw : ∀ n : Fin 252, IntOp.addi (BitVec.ofInt 32 ((n.val : ℤ) - 125)) 127#32 = IntOp.addi (BitVec.ofNat 32 (n.val + 1)) 1#32 := by decide +kernel
  subst hn
  rw [hw ⟨n, by omega⟩, power_value ⟨n + 1, by omega⟩ (by show n + 1 < 254; omega)]
  show (((2 : ℝ) ^ (((n + 1 : ℕ) : ℤ) - 126) : ℝ) : EReal) = _
  rw [show (((n + 1 : ℕ) : ℤ) - 126) = (n : ℤ) - 125 from by omega]

/-- The word of the reciprocal. -/
theorem inverse_word (e : ℤ) (hl : -125 ≤ e) (hu : e ≤ 126) :
    Ideal.ofBits .f32 (IntOp.shli ArithUnit.vector (IntOp.subi 127#32 (BitVec.ofInt 32 e)) 23#32) = (((2 : ℝ) ^ (-e) : ℝ) : EReal) := by
  obtain ⟨n, hn⟩ : ∃ n : ℕ, e = 126 - (n : ℤ) := ⟨(126 - e).toNat, by omega⟩
  have hw : ∀ n : Fin 252, IntOp.subi 127#32 (BitVec.ofInt 32 (126 - (n.val : ℤ))) = IntOp.addi (BitVec.ofNat 32 n.val) 1#32 := by decide +kernel
  subst hn
  rw [hw ⟨n, by omega⟩, power_value ⟨n, by omega⟩ (by show n < 254; omega)]
  show (((2 : ℝ) ^ ((n : ℤ) - 126) : ℝ) : EReal) = _
  rw [show -(126 - (n : ℤ)) = (n : ℤ) - 126 from by omega]

/-! ## The exponent by logarithms -/

/-- The floor of the logarithm to base two. -/
theorem floor_log (x : ℝ) (j : ℤ) (h1 : (2 : ℝ) ^ j ≤ x) (h2 : x < (2 : ℝ) ^ (j + 1)) :
    Ideal.liftRound Int.floor (Ideal.div (Ideal.log (x : EReal)) (Ideal.log ((2 : ℝ) : EReal))) = ((j : ℝ) : EReal) := by
  have hx : 0 < x := lt_of_lt_of_le (by positivity) h1
  have hl2 : Real.log 2 ≠ 0 := (Real.log_pos (by norm_num)).ne'
  have e1 : Ideal.log (x : EReal) = ((Real.log x : ℝ) : EReal) := if_neg (not_le.2 hx)
  have e2 : Ideal.log ((2 : ℝ) : EReal) = ((Real.log 2 : ℝ) : EReal) := if_neg (by norm_num)
  rw [e1, e2]
  unfold Ideal.div
  rw [if_neg (by rw [← EReal.coe_zero, EReal.coe_eq_coe_iff]; exact hl2), ← EReal.coe_inv, ← EReal.coe_mul]
  show (((⌊Real.log x * (Real.log 2)⁻¹⌋ : ℤ) : ℝ) : EReal) = _
  congr 2
  rw [← div_eq_mul_inv, Int.floor_eq_iff]
  have hlp : 0 < Real.log 2 := Real.log_pos (by norm_num)
  constructor
  · rw [le_div_iff₀ hlp, ← Real.log_zpow]
    exact Real.log_le_log (by positivity) h1
  · rw [div_lt_iff₀ hlp, show ((j : ℝ) + 1) = ((j + 1 : ℤ) : ℝ) by push_cast; ring, ← Real.log_zpow]
    exact Real.log_lt_log hx h2

/-- Two to an integer. -/
theorem exp2_int (e : ℤ) : Ideal.exp2 (((e : ℤ) : ℝ) : EReal) = (((2 : ℝ) ^ e : ℝ) : EReal) := by
  show ((Real.rpow 2 (e : ℝ) : ℝ) : EReal) = _
  congr 1
  exact Real.rpow_intCast 2 e

/-- A positive real lies between two neighbouring powers of two. -/
theorem between_powers (x : ℝ) (hx : 0 < x) : ∃ j : ℤ, (2 : ℝ) ^ j ≤ x ∧ x < (2 : ℝ) ^ (j + 1) :=
  exists_mem_Ico_zpow hx (by norm_num)

end Cert.KernelIdeal.Run

end
-- ==== Proof.KerQuant.lean ====
module

public import proofs.«01_k».proof.Proof.Exponent

/-
  The kernel's quantiser at an index.
-/
@[expose] public section

set_option maxRecDepth 16384

noncomputable section

namespace Cert.KernelIdeal.Run

open Cert.KernelIdeal.Gen
open Idealize.ShloMosaic Idealize.ShloMosaic.TcCoe Idealize.ShloMosaic.Tactic

/-- The greatest magnitude of a channel. -/
noncomputable def peak (dy : Vec Ideal S1536x640 .bf16) (d : Fin 640) : EReal :=
  Finset.fold max (Ideal.ofBits .f32 0xFF800000#32)
    (fun x : Fin 1536 => (FloatOps.absf (dy (ix2 (n0 := 1536) (n1 := 640) x d)) : Ideal .f32)) Finset.univ

/-- The quantity whose power of two is taken. -/
noncomputable def ratio (dy : Vec Ideal S1536x640 .bf16) (d : Fin 640) : EReal := peak dy d * Ideal.ofBits .f32 0x37924925#32

/-- The kernel's exponent word at an index, -/
theorem exp_at (dy : Vec Ideal S1536x640 .bf16) (j : S1x640.Idx) : k0_pay3 (F := Ideal) dy j = expWord (ratio dy (j 1)) := by
  unfold expWord fieldOf ratio peak
  pointwise [k0_pay3, k0_pay2]

/-- the scale, -/
theorem scale_at (dy : Vec Ideal S1536x640 .bf16) (j : S1x640.Idx) :
    scaleV (F := Ideal) dy j = Ideal.ofBits .f32 (IntOp.shli ArithUnit.vector (IntOp.addi (expWord (ratio dy (j 1))) 127#32) 23#32) := by
  unfold scaleV
  pointwise [k0_pay4]
  rw [exp_at]

/-- and the code. -/
theorem code_at (dy : Vec Ideal S1536x640 .bf16) (j : S1536x640.Idx) :
    codesV (F := Ideal) dy j = min (Ideal.ofBits .f32 0x47600000#32) (max (Ideal.ofBits .f32 0xC7600000#32)
      (dy j * Ideal.ofBits .f32 (IntOp.shli ArithUnit.vector (IntOp.subi 127#32 (expWord (ratio dy (j 1)))) 23#32))) := by
  unfold codesV
  pointwise [k0_pay5, k0_pay6, k0_pay2]
  rw [exp_at]
  rfl

end Cert.KernelIdeal.Run

end
-- ==== Proof.RefQuant.lean ====
module

public import proofs.«01_k».proof.Proof.RefArrays
public import Idealize.ShloMosaic.Lib.Pointwise

/-
  The reference's quantiser at an index.
-/
@[expose] public section

set_option maxRecDepth 16384

noncomputable section

namespace Cert.ReferenceIdeal.Run

open Cert.ReferenceIdeal Cert.ReferenceIdeal.Gen Idealize.ShloMosaic Idealize.ShloMosaic.TcCoe
open Idealize.ShloMosaic.Tactic

local notation "Ideal" => Idealize.ShloMosaic.Ideal

/-- The exponent the reference takes for a channel whose greatest magnitude is `a`. -/
noncomputable def expOf (a : EReal) : EReal :=
  if a = 0 then 0 else
    Idealize.ShloMosaic.Ideal.liftRound Int.floor (Idealize.ShloMosaic.Ideal.div
      (Idealize.ShloMosaic.Ideal.log (a * Idealize.ShloMosaic.Ideal.ofBits .f32 0x37924925#32))
      (Idealize.ShloMosaic.Ideal.log (Idealize.ShloMosaic.Ideal.ofBits .f32 0x40000000#32))) + 1

/-- The greatest magnitude of a channel. -/
noncomputable def peak (dy : Vec Ideal S1536x640 .bf16) (d : Fin 640) : EReal :=
  Finset.fold max (Idealize.ShloMosaic.Ideal.ofBits .f32 0xFF800000#32)
    (fun x : Fin 1536 => (FloatOps.absf (dy (ix2 (n0 := 1536) (n1 := 640) x d)) : Ideal .f32)) Finset.univ

/-- The exponent at an index, -/
theorem exp_at (dy : Vec Ideal S1536x640 .bf16) (j : S1x640.Idx) : k0_pay2 (F := Ideal) dy j = expOf (peak dy (j 1)) := by
  unfold expOf peak
  pointwise [k0_pay2, k0_pay1]

/-- the scale, -/
theorem scale_at (dy : Vec Ideal S1536x640 .bf16) (j : S1x640.Idx) :
    k0_pay3 (F := Ideal) dy j = Idealize.ShloMosaic.Ideal.exp2 (expOf (peak dy (j 1))) := by
  pointwise [k0_pay3]
  exact congrArg Idealize.ShloMosaic.Ideal.exp2 (exp_at dy j)

/-- and the code. -/
theorem code_at (dy : Vec Ideal S1536x640 .bf16) (j : S1536x640.Idx) :
    k0_pay4 (F := Ideal) dy j = min (Idealize.ShloMosaic.Ideal.ofBits .f32 0x47600000#32)
      (max (Idealize.ShloMosaic.Ideal.ofBits .f32 0xC7600000#32)
        (dy j * Idealize.ShloMosaic.Ideal.exp2 (0 - expOf (peak dy (j 1))))) := by
  pointwise [k0_pay4, k0_pay1]
  rw [exp_at]
  rfl

end Cert.ReferenceIdeal.Run

end
-- ==== Proof.Agree.lean ====
module

public import proofs.«01_k».proof.Proof.KerQuant
public import proofs.«01_k».proof.Proof.RefQuant

/-
  Kernel and reference quantise alike.
-/
@[expose] public section

set_option maxRecDepth 16384

noncomputable section

namespace Cert.KernelIdeal.Run

open Cert.KernelIdeal.Gen
open Idealize.ShloMosaic Idealize.ShloMosaic.TcCoe Idealize.ShloMosaic.Tactic

/-- The smallest value with a full exponent, -/
theorem low_value : Ideal.ofBits .f32 0x00800000#32 = (((2 : ℝ) ^ (-126 : ℤ) : ℝ) : EReal) :=
  value_of_fields _ 1 (by decide) (by decide) (by decide +kernel) (by decide +kernel) (by decide +kernel)

/-- the value the ratio stays below, -/
theorem high_value : Ideal.ofBits .f32 0x7E800000#32 = (((2 : ℝ) ^ (126 : ℤ) : ℝ) : EReal) :=
  value_of_fields _ 253 (by decide) (by decide) (by decide +kernel) (by decide +kernel) (by decide +kernel)

/-- and two. -/
theorem two_value : Ideal.ofBits .f32 0x40000000#32 = ((2 : ℝ) : EReal) := by
  rw [value_of_fields _ 128 (by decide) (by decide) (by decide +kernel) (by decide +kernel) (by decide +kernel)]
  norm_num

/-- Where a channel is zero throughout or its ratio is a normal value below `2 ^ 126`, the exponent counted by
    comparisons and the exponent taken by a logarithm are the same whole number. -/
theorem exponents_agree (a : EReal)
    (h : a = 0 ∨ (Ideal.ofBits .f32 0x00800000#32 ≤ a * Ideal.ofBits .f32 0x37924925#32
      ∧ a * Ideal.ofBits .f32 0x37924925#32 < Ideal.ofBits .f32 0x7E800000#32)) :
    ∃ e : ℤ, -125 ≤ e ∧ e ≤ 126 ∧ expWord (a * Ideal.ofBits .f32 0x37924925#32) = BitVec.ofInt 32 e
      ∧ Cert.ReferenceIdeal.Run.expOf a = ((e : ℝ) : EReal) := by
  by_cases ha : a = 0
  · refine ⟨0, by decide, by decide, ?_, ?_⟩
    · rw [ha, zero_mul, expWord_zero]
      rfl
    · rw [Cert.ReferenceIdeal.Run.expOf, if_pos ha]
      norm_num
  · obtain ⟨h1, h2⟩ := h.resolve_left ha
    rw [low_value] at h1
    rw [high_value] at h2
    rw [Cert.ReferenceIdeal.Run.expOf, if_neg ha, two_value]
    generalize a * Ideal.ofBits .f32 0x37924925#32 = s at h1 h2 ⊢
    induction s using EReal.rec with
    | bot => exact absurd h1 (by simp)
    | top => exact absurd h2 (by simp)
    | coe x =>
      have g1 : (2 : ℝ) ^ (-126 : ℤ) ≤ x := EReal.coe_le_coe_iff.1 h1
      have g2 : x < (2 : ℝ) ^ (126 : ℤ) := EReal.coe_lt_coe_iff.1 h2
      obtain ⟨j, j1, j2⟩ := between_powers x (lt_of_lt_of_le (by positivity) g1)
      have l1 : -126 < j + 1 := (zpow_lt_zpow_iff_right₀ (by norm_num : (1 : ℝ) < 2)).1 (lt_of_le_of_lt g1 j2)
      have l2 : j < 126 := (zpow_lt_zpow_iff_right₀ (by norm_num : (1 : ℝ) < 2)).1 (lt_of_le_of_lt j1 g2)
      refine ⟨j + 1, by omega, by omega, expWord_real x j j1 j2 (by omega) (by omega), ?_⟩
      rw [floor_log x j j1 j2]
      push_cast
      rfl

/-- The condition on a channel. -/
def Normal (dy : Vec Ideal S1536x640 .bf16) (d : Fin 640) : Prop :=
  peak dy d = 0 ∨ (Ideal.ofBits .f32 0x00800000#32 ≤ ratio dy d ∧ ratio dy d < Ideal.ofBits .f32 0x7E800000#32)

/-- Kernel and reference take the same scales, -/
theorem scales_agree (dy : Vec Ideal S1536x640 .bf16) (h : ∀ d, Normal dy d) :
    scaleV dy = Cert.ReferenceIdeal.Gen.k0_pay3 (F := Ideal) dy := by
  funext j
  obtain ⟨e, e1, e2, e3, e4⟩ := exponents_agree (peak dy (j 1)) (h (j 1))
  refine (scale_at dy j).trans (Eq.trans ?_ (Cert.ReferenceIdeal.Run.scale_at dy j).symm)
  rw [show Cert.ReferenceIdeal.Run.peak dy (j 1) = peak dy (j 1) from rfl, e4, exp2_int]
  rw [show expWord (ratio dy (j 1)) = BitVec.ofInt 32 e from e3]
  exact scale_word e e1 e2

/-- and the same codes. -/
theorem codes_agree (dy : Vec Ideal S1536x640 .bf16) (h : ∀ d, Normal dy d) :
    codesV dy = Cert.ReferenceIdeal.Gen.k0_pay4 (F := Ideal) dy := by
  funext j
  obtain ⟨e, e1, e2, e3, e4⟩ := exponents_agree (peak dy (j 1)) (h (j 1))
  refine (code_at dy j).trans (Eq.trans ?_ (Cert.ReferenceIdeal.Run.code_at dy j).symm)
  rw [show Cert.ReferenceIdeal.Run.peak dy (j 1) = peak dy (j 1) from rfl, e4]
  rw [show expWord (ratio dy (j 1)) = BitVec.ofInt 32 e from e3, inverse_word e e1 e2]
  rw [show (0 : EReal) - ((e : ℝ) : EReal) = (((-e : ℤ) : ℝ) : EReal) from by
    rw [zero_sub, Int.cast_neg, EReal.coe_neg], exp2_int]

end Cert.KernelIdeal.Run

end
-- ==== Proof.PreUse.lean ====
module

public import proofs.«01_k».proof.Proof.Agree
public import proofs.«01_k».proof.Pre_scale_is_normal
public import Idealize.ShloMosaic.Lib.KernelVsHost

/-
  What the precondition says of each channel.
-/
@[expose] public section

set_option maxRecDepth 16384

noncomputable section

namespace Cert.KernelIdeal.Run

open Cert.KernelIdeal.Gen
open Idealize.ShloMosaic Idealize.ShloMosaic.TcCoe Idealize.ShloMosaic.Tactic

/-- The precondition, channel by channel. -/
theorem normal_of_pre [Cert.Pre_scale_is_normal.Facts] (a0 : FVec Ideal S6x8x32x1920 .fp8e4m3) (a1 : FVec Ideal S1920 .f32)
    (a2 : FVec Ideal S6x8x32x640 .bf16) (h : Cert.Pre_scale_is_normal.fn a0 a1 a2 = fun _ => 1#1) (d : Fin 640) :
    Normal (shapeCast S1536x640 a2 shapeCasts_S6x8x32x640_S1536x640) d := by
  have h' := congrFun h (ix1 (n0 := 640) d)
  have e : Cert.Pre_scale_is_normal.fn a0 a1 a2 (ix1 (n0 := 640) d)
      = IntOp.ori (BitVec.ofBool (decide (peak (shapeCast S1536x640 a2 shapeCasts_S6x8x32x640_S1536x640) d = 0)))
        (IntOp.andi
          (BitVec.ofBool (decide (Ideal.ofBits .f32 0x00800000#32 ≤ ratio (shapeCast S1536x640 a2 shapeCasts_S6x8x32x640_S1536x640) d)))
          (BitVec.ofBool (decide (ratio (shapeCast S1536x640 a2 shapeCasts_S6x8x32x640_S1536x640) d < Ideal.ofBits .f32 0x7E800000#32)))) := by
    unfold Cert.Pre_scale_is_normal.fn ratio peak
    dsimp only
    pointwise []
  rw [e] at h'
  unfold Normal
  by_cases p : peak (shapeCast S1536x640 a2 shapeCasts_S6x8x32x640_S1536x640) d = 0
  · exact Or.inl p
  · refine Or.inr ?_
    by_cases q1 : Ideal.ofBits .f32 0x00800000#32 ≤ ratio (shapeCast S1536x640 a2 shapeCasts_S6x8x32x640_S1536x640) d
    · by_cases q2 : ratio (shapeCast S1536x640 a2 shapeCasts_S6x8x32x640_S1536x640) d < Ideal.ofBits .f32 0x7E800000#32
      · exact ⟨q1, q2⟩
      · rw [decide_eq_false p, decide_eq_true q1, decide_eq_false q2] at h'
        exact absurd h' (by decide)
    · rw [decide_eq_false p, decide_eq_false q1] at h'
      exact absurd h' (by cases decide (ratio (shapeCast S1536x640 a2 shapeCasts_S6x8x32x640_S1536x640) d < Ideal.ofBits .f32 0x7E800000#32) <;> decide)

end Cert.KernelIdeal.Run

end
-- ==== Proof.Equal.lean ====
module

public import proofs.«01_k».proof.Proof.Dw
public import proofs.«01_k».proof.Proof.PreUse

/-
  The three results of the kernel are those of the reference.
-/
@[expose] public section

set_option maxRecDepth 16384

noncomputable section

namespace Cert.KernelIdeal.Run

open Cert.KernelIdeal.Gen
open Idealize.ShloMosaic Idealize.ShloMosaic.TcCoe Idealize.ShloMosaic.Tactic

/-- A pixel's row holds the pixel's channels. -/
theorem row_at (a : FVec Ideal S6x8x32x1920 .fp8e4m3) (q : Fin 1536) (k : Fin 1920) :
    shapeCast S1536x1920 a shapeCasts_S6x8x32x1920_S1536x1920 (ix2 (n0 := 1536) (n1 := 1920) q k)
      = a (ix4 (n0 := 6) (n1 := 8) (n2 := 32) (n3 := 1920) ⟨q.val / 256, by omega⟩ ⟨q.val / 32 % 8, by omega⟩ ⟨q.val % 32, by omega⟩ k) := by
  pointwise []

section
variable (m : (ℓ : Loc nD τ sig) → Buf (Elt Ideal) ℓ) (c : Dev nD)

/-- The kernel's weight gradient is the reference's of the same arguments. -/
theorem dw_agree (hn : ∀ d, Normal (dyArr m c) d) :
    dwArr m c = Cert.ReferenceIdeal.Gen.out0_3 (F := Ideal) (m ((c.tc : Thread nD τ).loc main_arg0)) (xScales m c) (dyArr m c) := by
  funext y
  have hy0 : (y 0).val < 9 := (y 0).isLt
  rw [kernel_dw, Cert.ReferenceIdeal.Run.out_eq]
  refine Eq.trans ?_ (Cert.ReferenceIdeal.Run.dw_at _ _ _ y).symm
  rw [Cert.ReferenceIdeal.Run.comb_at, ← codes_agree _ hn, ← scales_agree _ hn]
  refine congrArg (· * _) ?_
  refine Eq.trans (Finset.sum_congr rfl fun q _ => congrArg (· * _) ?_)
    (sums_agree (y 0).val hy0 (codesV (dyArr m c)) (y 2) (m ((c.tc : Thread nD τ).loc main_arg0)) (y 1))
  unfold xRows
  rw [x_arr_eq]
  exact row_at _ q (y 1)

/-- The precondition, at a memory, makes every channel's scale normal. -/
theorem normal_arr [Cert.Pre_scale_is_normal.Facts]
    (h : Cert.Pre_scale_is_normal.fn (F := Ideal) (m ((c.tc : Thread nD τ).loc main_arg0)) (m ((c.tc : Thread nD τ).loc main_arg1))
      (m ((c.tc : Thread nD τ).loc main_arg2)) = fun _ => 1#1) (d : Fin 640) : Normal (dyArr m c) d := by
  rw [dyArr_eq]
  exact normal_of_pre _ _ _ h d

variable (m' : (ℓ : Loc Cert.ReferenceIdeal.nD Cert.ReferenceIdeal.τ Cert.ReferenceIdeal.sig) → Buf (Elt Ideal) ℓ)

/-- If the scales given are the same, so are the columns the two programs make of them, -/
theorem scales_same (h : m' ((c.tc : Thread Cert.ReferenceIdeal.nD Cert.ReferenceIdeal.τ).loc Cert.ReferenceIdeal.main_arg1)
      = m ((c.tc : Thread nD τ).loc main_arg1)) : Cert.ReferenceIdeal.Gen.V m' c Cert.ReferenceIdeal.main_v0 = xScales m c := by
  unfold xScales
  rw [xs_arr_eq]
  refine (Cert.ReferenceIdeal.Run.xs_arr_eq m' c).trans ?_
  rw [h]

/-- and likewise the gradients' rows. -/
theorem grads_same (h : m' ((c.tc : Thread Cert.ReferenceIdeal.nD Cert.ReferenceIdeal.τ).loc Cert.ReferenceIdeal.main_arg2)
      = m ((c.tc : Thread nD τ).loc main_arg2)) : Cert.ReferenceIdeal.Gen.V m' c Cert.ReferenceIdeal.main_v1 = dyArr m c := by
  rw [dyArr_eq]
  refine (Cert.ReferenceIdeal.Run.dyArr_eq m' c).trans ?_
  rw [h]

end

/-- What the precondition's own program needs of its shapes. -/
theorem pre_facts : Cert.Pre_scale_is_normal.Facts where
  shapeCasts_S6x8x32x640_S1536x640 := by decide
  bitsLt_bf16_f32 := by decide
  reducesTo_S1536x640_S640_d0 := by decide
  h_S_ := by decide
  bcast_S_S640 := by decide

end Cert.KernelIdeal.Run

end
-- ==== Proof.lean ====
module

public import proofs.«01_k».proof.Defs
public import proofs.«01_k».proof.Proof.Same
public import proofs.«01_k».proof.Proof.Equal
public import proofs.«01_k».proof.Proof.Gen.ReferenceIdeal.Frame

/-
  The certificate: the three programs run and leave their arguments and semaphores as they found them, and over the
  extended reals the kernel's three results are the reference's.
-/
@[expose] public section

open Idealize.ShloMosaic

/-- Where every channel's scale is a normal number, kernel and reference end with the same three arrays. -/
theorem Cert.Proof.same_results :
    Cert.algebraic_KernelIdeal_ReferenceIdeal_pre_scale_is_normal (hKernelIdeal := Cert.KernelIdeal.Gen.facts)
      (hReferenceIdeal := Cert.ReferenceIdeal.Gen.facts) (hPre_scale_is_normal := Cert.KernelIdeal.Run.pre_facts) := by
  intro m g m' g' hpre hargs
  letI := Cert.KernelIdeal.Run.pre_facts
  have hn : ∀ c d, Cert.KernelIdeal.Run.Normal (Cert.KernelIdeal.Run.dyArr m c) d :=
    fun c d => Cert.KernelIdeal.Run.normal_arr m c (hpre c) d
  refine ⟨fun c => Cert.KernelIdeal.Run.dwArr m c, fun c => Cert.KernelIdeal.Run.codesV (Cert.KernelIdeal.Run.dyArr m c),
    fun c => Cert.KernelIdeal.Run.scaleV (Cert.KernelIdeal.Run.dyArr m c), Cert.KernelIdeal.Run.run_values m g, ?_⟩
  refine (θ_run _ _ _).mono (fun r h c => ?_) (Cert.ReferenceIdeal.Run.run_values m' g')
  obtain ⟨h0, h1, h2, h3⟩ := h c
  obtain ⟨a0, a1, a2⟩ := hargs c
  rw [a0, Cert.KernelIdeal.Run.scales_same m c m' a1, Cert.KernelIdeal.Run.grads_same m c m' a2] at h0
  rw [Cert.KernelIdeal.Run.grads_same m c m' a2] at h1 h2
  exact ⟨h0.trans (Cert.KernelIdeal.Run.dw_agree m c (hn c)).symm, h1.trans (Cert.KernelIdeal.Run.codes_agree _ (hn c)).symm,
    h2.trans (Cert.KernelIdeal.Run.scales_agree _ (hn c)).symm, h3⟩

theorem Cert.Proof.claim : Cert.Claim :=
  ⟨Cert.Kernel.Gen.facts, Cert.KernelIdeal.Gen.facts, Cert.ReferenceIdeal.Gen.facts, Cert.KernelIdeal.Run.pre_facts,
    fun m ρ _ => Cert.Kernel.Run.frame m ρ,
    fun m ρ _ => Cert.KernelIdeal.Run.frame m ρ,
    fun m ρ _ => Cert.KernelIdeal.Run.frame m ρ,
    fun m ρ _ => Cert.ReferenceIdeal.Gen.frame m ρ,
    fun m ρ _ => Cert.ReferenceIdeal.Gen.frame m ρ,
    trivial,
    Cert.Proof.same_results⟩

end
